-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v67)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x256x48x128 : Shape := ⟨4, ![7, 256, 48, 128]⟩
abbrev S7x256x8x128 : Shape := ⟨4, ![7, 256, 8, 128]⟩
abbrev S7x256 : Shape := ⟨2, ![7, 256]⟩
abbrev S16 : Shape := ⟨1, ![16]⟩
abbrev S6144x8192 : Shape := ⟨2, ![6144, 8192]⟩
abbrev S_ : Shape := ⟨0, ![]⟩
abbrev S64 : Shape := ⟨1, ![64]⟩
abbrev S1792x1 : Shape := ⟨2, ![1792, 1]⟩
abbrev S1x64 : Shape := ⟨2, ![1, 64]⟩
abbrev S1792x64 : Shape := ⟨2, ![1792, 64]⟩
abbrev S1792x128 : Shape := ⟨2, ![1792, 128]⟩
abbrev S254 : Shape := ⟨1, ![254]⟩
abbrev S1792x6144 : Shape := ⟨2, ![1792, 6144]⟩
abbrev S1792x1024 : Shape := ⟨2, ![1792, 1024]⟩
abbrev S1792x8192 : Shape := ⟨2, ![1792, 8192]⟩
abbrev S1 : Shape := ⟨1, ![1]⟩
abbrev S8x128 : Shape := ⟨2, ![8, 128]⟩
abbrev S256x1024 : Shape := ⟨2, ![256, 1024]⟩
abbrev S256x128 : Shape := ⟨2, ![256, 128]⟩
abbrev S32x8x1024 : Shape := ⟨3, ![32, 8, 1024]⟩
abbrev S8x1024 : Shape := ⟨2, ![8, 1024]⟩
abbrev S896x8192 : Shape := ⟨2, ![896, 8192]⟩
abbrev S512x8192 : Shape := ⟨2, ![512, 8192]⟩
abbrev S896x512 : Shape := ⟨2, ![896, 512]⟩
abbrev S15 : Shape := ⟨1, ![15]⟩
abbrev S7x256x6144 : Shape := ⟨3, ![7, 256, 6144]⟩
abbrev S7x256x8192 : Shape := ⟨3, ![7, 256, 8192]⟩

abbrev nBuf : Space → Nat
  | .hbm => 110
  | .vmem => 15
  | .smem => 2
  | _ => 0

abbrev bufTy : (tb : Table) → Fin (tcTables nBuf tb) → BufTy
  | .hbm, ⟨0, _⟩ => ⟨S7x256x48x128, .bf16⟩
  | .hbm, ⟨1, _⟩ => ⟨S7x256x8x128, .bf16⟩
  | .hbm, ⟨2, _⟩ => ⟨S7x256x8x128, .bf16⟩
  | .hbm, ⟨3, _⟩ => ⟨S7x256, .i32⟩
  | .hbm, ⟨4, _⟩ => ⟨S16, .f32⟩
  | .hbm, ⟨5, _⟩ => ⟨S6144x8192, .fp8e4m3⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S7x256, .f32⟩
  | .hbm, ⟨24, _⟩ => ⟨S1792x1, .f32⟩
  | .hbm, ⟨25, _⟩ => ⟨S1x64, .f32⟩
  | .hbm, ⟨26, _⟩ => ⟨S1792x64, .f32⟩
  | .hbm, ⟨27, _⟩ => ⟨S1792x64, .f32⟩
  | .hbm, ⟨28, _⟩ => ⟨S1792x64, .f32⟩
  | .hbm, ⟨29, _⟩ => ⟨S1792x64, .f32⟩
  | .hbm, ⟨30, _⟩ => ⟨S1792x64, .f32⟩
  | .hbm, ⟨31, _⟩ => ⟨S1792x128, .f32⟩
  | .hbm, ⟨32, _⟩ => ⟨S1792x64, .f32⟩
  | .hbm, ⟨33, _⟩ => ⟨S1792x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S254, .i32⟩
  | .hbm, ⟨39, _⟩ => ⟨S_, .i32⟩
  | .hbm, ⟨40, _⟩ => ⟨S254, .i32⟩
  | .hbm, ⟨41, _⟩ => ⟨S254, .i32⟩
  | .hbm, ⟨42, _⟩ => ⟨S_, .i32⟩
  | .hbm, ⟨43, _⟩ => ⟨S254, .i32⟩
  | .hbm, ⟨44, _⟩ => ⟨S254, .i32⟩
  | .hbm, ⟨45, _⟩ => ⟨S254, .f32⟩
  | .hbm, ⟨46, _⟩ => ⟨S_, .f32⟩
  | .hbm, ⟨47, _⟩ => ⟨S254, .f32⟩
  | .hbm, ⟨48, _⟩ => ⟨S254, .i1⟩
  | .hbm, ⟨49, _⟩ => ⟨S254, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S1792x6144, .bf16⟩
  | .hbm, ⟨94, _⟩ => ⟨S1792x1024, .bf16⟩
  | .hbm, ⟨95, _⟩ => ⟨S1792x1024, .bf16⟩
  | .hbm, ⟨96, _⟩ => ⟨S1792x8192, .bf16⟩
  | .hbm, ⟨97, _⟩ => ⟨S1, .f32⟩
  | .hbm, ⟨98, _⟩ => ⟨S1792x8192, .fp8e5m2⟩
  | .hbm, ⟨99, _⟩ => ⟨S8x128, .f32⟩
  | .hbm, ⟨100, _⟩ => ⟨S_, .f32⟩
  | .hbm, ⟨101, _⟩ => ⟨S1, .f32⟩
  | .hbm, ⟨102, _⟩ => ⟨S1792x6144, .bf16⟩
  | .hbm, ⟨103, _⟩ => ⟨S_, .f32⟩
  | .hbm, ⟨104, _⟩ => ⟨S_, .f32⟩
  | .hbm, ⟨105, _⟩ => ⟨S1, .f32⟩
  | .hbm, ⟨106, _⟩ => ⟨S15, .f32⟩
  | .hbm, ⟨107, _⟩ => ⟨S16, .f32⟩
  | .hbm, ⟨108, _⟩ => ⟨S7x256x6144, .bf16⟩
  | .hbm, ⟨109, _⟩ => ⟨S7x256x8192, .fp8e5m2⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1024, .fp8e5m2⟩
  | .local _ .vmem, ⟨7, _⟩ => ⟨S256x1024, .fp8e5m2⟩
  | .local _ .vmem, ⟨8, _⟩ => ⟨S8x128, .f32⟩
  | .local _ .vmem, ⟨9, _⟩ => ⟨S896x8192, .fp8e5m2⟩
  | .local _ .vmem, ⟨10, _⟩ => ⟨S896x8192, .fp8e5m2⟩
  | .local _ .vmem, ⟨11, _⟩ => ⟨S512x8192, .fp8e4m3⟩
  | .local _ .vmem, ⟨12, _⟩ => ⟨S512x8192, .fp8e4m3⟩
  | .local _ .vmem, ⟨13, _⟩ => ⟨S896x512, .bf16⟩
  | .local _ .vmem, ⟨14, _⟩ => ⟨S896x512, .bf16⟩
  | .local _ .smem, ⟨0, _⟩ => ⟨S1, .f32⟩
  | .local _ .smem, ⟨1, _⟩ => ⟨S1, .f32⟩
  | _, _ => ⟨S7x256x48x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_c_12 : Ref sig .tc := ⟨.hbm, 62, rfl⟩
abbrev main_call0_v0 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_c_14 : Ref sig .tc := ⟨.hbm, 67, rfl⟩
abbrev main_call1_v0 : Ref sig .tc := ⟨.hbm, 68, rfl⟩
abbrev main_v43 : Ref sig .tc := ⟨.hbm, 69, rfl⟩
abbrev main_c_15 : Ref sig .tc := ⟨.hbm, 70, rfl⟩
abbrev main_v44 : Ref sig .tc := ⟨.hbm, 71, rfl⟩
abbrev main_c_16 : Ref sig .tc := ⟨.hbm, 72, rfl⟩
abbrev main_c_17 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v45 : Ref sig .tc := ⟨.hbm, 77, rfl⟩
abbrev main_c_18 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_19 : Ref sig .tc := ⟨.hbm, 82, rfl⟩
abbrev main_v49 : Ref sig .tc := ⟨.hbm, 83, rfl⟩
abbrev main_c_20 : Ref sig .tc := ⟨.hbm, 84, rfl⟩
abbrev main_c_21 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v50 : Ref sig .tc := ⟨.hbm, 89, rfl⟩
abbrev main_c_22 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58_0 : Ref sig .tc := ⟨.hbm, 98, rfl⟩
abbrev main_v58_1 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_23 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![7, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![2, 12], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S896x8192 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S896x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S7x256x48x128 : Shape := ⟨4, ![7, 256, 48, 128]⟩
abbrev S7x256x8x128 : Shape := ⟨4, ![7, 256, 8, 128]⟩
abbrev S7x256 : Shape := ⟨2, ![7, 256]⟩
abbrev S16 : Shape := ⟨1, ![16]⟩
abbrev S6144x8192 : Shape := ⟨2, ![6144, 8192]⟩
abbrev S_ : Shape := ⟨0, ![]⟩
abbrev S64 : Shape := ⟨1, ![64]⟩
abbrev S7x256x1 : Shape := ⟨3, ![7, 256, 1]⟩
abbrev S1x1x64 : Shape := ⟨3, ![1, 1, 64]⟩
abbrev S7x256x64 : Shape := ⟨3, ![7, 256, 64]⟩
abbrev S7x256x1x64 : Shape := ⟨4, ![7, 256, 1, 64]⟩
abbrev S7x256x48x64 : Shape := ⟨4, ![7, 256, 48, 64]⟩
abbrev S7x256x6144 : Shape := ⟨3, ![7, 256, 6144]⟩
abbrev S7x256x8x64 : Shape := ⟨4, ![7, 256, 8, 64]⟩
abbrev S7x256x1024 : Shape := ⟨3, ![7, 256, 1024]⟩
abbrev S7x256x8192 : Shape := ⟨3, ![7, 256, 8192]⟩
abbrev S1 : Shape := ⟨1, ![1]⟩
abbrev S15 : Shape := ⟨1, ![15]⟩
abbrev S1x1 : Shape := ⟨2, ![1, 1]⟩
abbrev S1792x8192 : Shape := ⟨2, ![1792, 8192]⟩
abbrev S1792x6144 : Shape := ⟨2, ![1792, 6144]⟩

abbrev nBuf : Space → Nat
  | .hbm => 131
  | .vmem => 6
  | .smem => 0
  | _ => 0

abbrev hbmTy0_0 (i : Nat) : BufTy := match i % 128 with
  | 0 => ⟨S7x256x48x128, .bf16⟩
  | 1 => ⟨S7x256x8x128, .bf16⟩
  | 2 => ⟨S7x256x8x128, .bf16⟩
  | 3 => ⟨S7x256, .i32⟩
  | 4 => ⟨S16, .f32⟩
  | 5 => ⟨S6144x8192, .fp8e4m3⟩
  | 6 => ⟨S_, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S7x256, .f32⟩
  | 24 => ⟨S7x256x1, .f32⟩
  | 25 => ⟨S1x1x64, .f32⟩
  | 26 => ⟨S7x256x64, .f32⟩
  | 27 => ⟨S7x256x64, .f32⟩
  | 28 => ⟨S7x256x64, .f32⟩
  | 29 => ⟨S7x256x64, .f32⟩
  | 30 => ⟨S7x256x1x64, .f32⟩
  | 31 => ⟨S7x256x64, .f32⟩
  | 32 => ⟨S7x256x1x64, .f32⟩
  | 33 => ⟨S7x256x48x128, .f32⟩
  | 34 => ⟨S7x256x48x64, .f32⟩
  | 35 => ⟨S7x256x48x64, .f32⟩
  | 36 => ⟨S7x256x48x64, .f32⟩
  | 37 => ⟨S7x256x48x64, .f32⟩
  | 38 => ⟨S7x256x48x64, .f32⟩
  | 39 => ⟨S7x256x48x64, .f32⟩
  | 40 => ⟨S7x256x48x64, .f32⟩
  | 41 => ⟨S7x256x48x64, .f32⟩
  | 42 => ⟨S7x256x48x64, .f32⟩
  | 43 => ⟨S7x256x48x64, .f32⟩
  | 44 => ⟨S7x256x48x64, .f32⟩
  | 45 => ⟨S7x256x48x64, .f32⟩
  | 46 => ⟨S7x256x48x128, .f32⟩
  | 47 => ⟨S7x256x6144, .f32⟩
  | 48 => ⟨S7x256x8x128, .f32⟩
  | 49 => ⟨S7x256x8x64, .f32⟩
  | 50 => ⟨S7x256x8x64, .f32⟩
  | 51 => ⟨S7x256x8x64, .f32⟩
  | 52 => ⟨S7x256x8x64, .f32⟩
  | 53 => ⟨S7x256x8x64, .f32⟩
  | 54 => ⟨S7x256x8x64, .f32⟩
  | 55 => ⟨S7x256x8x64, .f32⟩
  | 56 => ⟨S7x256x8x64, .f32⟩
  | 57 => ⟨S7x256x8x64, .f32⟩
  | 58 => ⟨S7x256x8x64, .f32⟩
  | 59 => ⟨S7x256x8x64, .f32⟩
  | 60 => ⟨S7x256x8x64, .f32⟩
  | 61 => ⟨S7x256x8x128, .f32⟩
  | 62 => ⟨S7x256x1024, .f32⟩
  | 63 => ⟨S7x256x8x128, .f32⟩
  | 64 => ⟨S7x256x1024, .f32⟩
  | 65 => ⟨S7x256x8192, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i1⟩
  | 81 => ⟨S_, .f32⟩
  | 82 => ⟨S_, .i1⟩
  | 83 => ⟨S_, .i1⟩
  | 84 => ⟨S_, .f32⟩
  | 85 => ⟨S_, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S_, .i1⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S7x256x8192, .f32⟩
  | 118 => ⟨S_, .f32⟩
  | 119 => ⟨S_, .f32⟩
  | 120 => ⟨S1, .f32⟩
  | 121 => ⟨S15, .f32⟩
  | 122 => ⟨S16, .f32⟩
  | 123 => ⟨S1x1, .f32⟩
  | 124 => ⟨S_, .f32⟩
  | 125 => ⟨S1x1, .f32⟩
  | 126 => ⟨S1792x8192, .f32⟩
  | 127 => ⟨S1792x8192, .fp8e5m2⟩
  | _ => ⟨S7x256x48x128, .bf16⟩

abbrev hbmTy0_1 (i : Nat) : BufTy := match i % 128 with
  | 0 => ⟨S1792x6144, .bf16⟩
  | 1 => ⟨S7x256x6144, .bf16⟩
  | 2 => ⟨S7x256x8192, .fp8e5m2⟩
  | _ => ⟨S7x256x48x128, .bf16⟩

abbrev hbmTy (i : Nat) : BufTy := match i / 128 with
  | 0 => hbmTy0_0 i
  | 1 => hbmTy0_1 i
  | _ => ⟨S7x256x48x128, .bf16⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S1x1, .f32⟩
  | .local _ .vmem, ⟨2, _⟩ => ⟨S1792x8192, .f32⟩
  | .local _ .vmem, ⟨3, _⟩ => ⟨S6144x8192, .fp8e4m3⟩
  | .local _ .vmem, ⟨4, _⟩ => ⟨S1792x8192, .fp8e5m2⟩
  | .local _ .vmem, ⟨5, _⟩ => ⟨S1792x6144, .bf16⟩
  | _, _ => ⟨S7x256x48x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_call0_v0 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_cst_12 : Ref sig .tc := ⟨.hbm, 89, rfl⟩
abbrev main_call1_v0 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_call2_v0 : Ref sig .tc := ⟨.hbm, 99, rfl⟩
abbrev main_v72 : Ref sig .tc := ⟨.hbm, 100, rfl⟩
abbrev main_cst_17 : Ref sig .tc := ⟨.hbm, 101, rfl⟩
abbrev main_call3_v0 : Ref sig .tc := ⟨.hbm, 102, rfl⟩
abbrev main_v73 : Ref sig .tc := ⟨.hbm, 103, rfl⟩
abbrev main_v74 : Ref sig .tc := ⟨.hbm, 104, rfl⟩
abbrev main_cst_18 : Ref sig .tc := ⟨.hbm, 105, rfl⟩
abbrev main_v75 : Ref sig .tc := ⟨.hbm, 106, rfl⟩
abbrev main_cst_19 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_cst_21 : Ref sig .tc := ⟨.hbm, 111, rfl⟩
abbrev main_call4_v0 : Ref sig .tc := ⟨.hbm, 112, rfl⟩
abbrev main_v78 : Ref sig .tc := ⟨.hbm, 113, rfl⟩
abbrev main_cst_22 : Ref sig .tc := ⟨.hbm, 114, rfl⟩
abbrev main_call5_v0 : Ref sig .tc := ⟨.hbm, 115, rfl⟩
abbrev main_v79 : Ref sig .tc := ⟨.hbm, 116, rfl⟩
abbrev main_v80 : Ref sig .tc := ⟨.hbm, 117, rfl⟩
abbrev main_cst_23 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89_0 : Ref sig .tc := ⟨.hbm, 127, rfl⟩
abbrev main_v89_1 : Ref sig .tc := ⟨.hbm, 128, rfl⟩
abbrev main_v90 : Ref sig .tc := ⟨.hbm, 129, rfl⟩
abbrev main_v91 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelVals.lean ====
/- The values the host operations of the kernel's program compute, one definition per operation, as functions of the
   program's arguments, and each read at an index where its element comes from one element of each operand. -/
module

public import proofs.«01_k».proof.Proof.Gen.KernelIdeal
public import Idealize.ShloMosaic.Lib.Pipeline.Value

@[expose] public section

noncomputable section

namespace Cert.KernelIdeal.Vals

open Cert.KernelIdeal Cert.KernelIdeal.Gen Idealize.ShloMosaic Idealize.ShloMosaic.TcCoe Idealize.SL.Sem Idealize.ShloMosaic.StableHlo

variable {F : FTy → Type} [FloatOps F]

/-- `%0 = stablehlo.iota dim = 0 : tensor<64xf32>` -/
def val_main_v0 : (⟨S64, .f32⟩ : BufTy).Contents (Elt F) :=
  sitofp .f32 (iotaInDim S64 32 0)

/-- `%cst = stablehlo.constant dense<2.000000e+00> : tensor<f32>` -/
def val_main_cst : (⟨S_, .f32⟩ : BufTy).Contents (Elt F) :=
  constant S_ .f32 0x40000000#32
/-- The value of `main_cst` at an index, from its operands' values. -/
theorem val_main_cst_apply (i : S_.Idx) :
    val_main_cst (F := F) i = FloatOps.ofBits .f32 0x40000000#32 := rfl

/-- `%1 = stablehlo.broadcast_in_dim %cst, dims = [] : (tensor<f32>) -> tensor<64xf32>` -/
def val_main_v1 : (⟨S64, .f32⟩ : BufTy).Contents (Elt F) :=
  broadcastInDim S64 ![] bcast_S_S64 (val_main_cst (F := F))
/-- Where `main_v1` reads its operand. -/
abbrev idx_main_v1 (i : S64.Idx) : S_.Idx := fun a => a.elim0
/-- The value of `main_v1` at an index, from its operands' values. -/
theorem val_main_v1_apply (i : S64.Idx) :
    val_main_v1 (F := F) i = val_main_cst (F := F) (idx_main_v1 i) := by
  unfold val_main_v1
  generalize val_main_cst (F := F) = y
  exact broadcastInDim_apply _ bcast_S_S64 y i (idx_main_v1 i) (fun a => a.elim0)

/-- `%2 = stablehlo.multiply %1, %0 : tensor<64xf32>` -/
def val_main_v2 : (⟨S64, .f32⟩ : BufTy).Contents (Elt F) :=
  mulf (val_main_v1 (F := F)) (val_main_v0 (F := F))
/-- The value of `main_v2` at an index, from its operands' values. -/
theorem val_main_v2_apply (i : S64.Idx) :
    val_main_v2 (F := F) i = FloatOps.mulf (val_main_v1 (F := F) i) (val_main_v0 (F := F) i) := rfl

/-- `%cst_0 = stablehlo.constant dense<0.000000e+00> : tensor<f32>` -/
def val_main_cst_0 : (⟨S_, .f32⟩ : BufTy).Contents (Elt F) :=
  constant S_ .f32 0x00000000#32
/-- The value of `main_cst_0` at an index, from its operands' values. -/
theorem val_main_cst_0_apply (i : S_.Idx) :
    val_main_cst_0 (F := F) i = FloatOps.ofBits .f32 0x00000000#32 := rfl

/-- `%3 = stablehlo.broadcast_in_dim %cst_0, dims = [] : (tensor<f32>) -> tensor<64xf32>` -/
def val_main_v3 : (⟨S64, .f32⟩ : BufTy).Contents (Elt F) :=
  broadcastInDim S64 ![] bcast_S_S64 (val_main_cst_0 (F := F))
/-- Where `main_v3` reads its operand. -/
abbrev idx_main_v3 (i : S64.Idx) : S_.Idx := fun a => a.elim0
/-- The value of `main_v3` at an index, from its operands' values. -/
theorem val_main_v3_apply (i : S64.Idx) :
    val_main_v3 (F := F) i = val_main_cst_0 (F := F) (idx_main_v3 i) := by
  unfold val_main_v3
  generalize val_main_cst_0 (F := F) = y
  exact broadcastInDim_apply _ bcast_S_S64 y i (idx_main_v3 i) (fun a => a.elim0)

/-- `%4 = stablehlo.add %3, %2 : tensor<64xf32>` -/
def val_main_v4 : (⟨S64, .f32⟩ : BufTy).Contents (Elt F) :=
  addf (val_main_v3 (F := F)) (val_main_v2 (F := F))
/-- The value of `main_v4` at an index, from its operands' values. -/
theorem val_main_v4_apply (i : S64.Idx) :
    val_main_v4 (F := F) i = FloatOps.addf (val_main_v3 (F := F) i) (val_main_v2 (F := F) i) := rfl

/-- `%cst_1 = stablehlo.constant dense<1.280000e+02> : tensor<f32>` -/
def val_main_cst_1 : (⟨S_, .f32⟩ : BufTy).Contents (Elt F) :=
  constant S_ .f32 0x43000000#32
/-- The value of `main_cst_1` at an index, from its operands' values. -/
theorem val_main_cst_1_apply (i : S_.Idx) :
    val_main_cst_1 (F := F) i = FloatOps.ofBits .f32 0x43000000#32 := rfl

/-- `%5 = stablehlo.broadcast_in_dim %cst_1, dims = [] : (tensor<f32>) -> tensor<64xf32>` -/
def val_main_v5 : (⟨S64, .f32⟩ : BufTy).Contents (Elt F) :=
  broadcastInDim S64 ![] bcast_S_S64 (val_main_cst_1 (F := F))
/-- Where `main_v5` reads its operand. -/
abbrev idx_main_v5 (i : S64.Idx) : S_.Idx := fun a => a.elim0
/-- The value of `main_v5` at an index, from its operands' values. -/
theorem val_main_v5_apply (i : S64.Idx) :
    val_main_v5 (F := F) i = val_main_cst_1 (F := F) (idx_main_v5 i) := by
  unfold val_main_v5
  generalize val_main_cst_1 (F := F) = y
  exact broadcastInDim_apply _ bcast_S_S64 y i (idx_main_v5 i) (fun a => a.elim0)

/-- `%6 = stablehlo.divide %4, %5 : tensor<64xf32>` -/
def val_main_v6 : (⟨S64, .f32⟩ : BufTy).Contents (Elt F) :=
  Host.divf (val_main_v4 (F := F)) (val_main_v5 (F := F))
/-- The value of `main_v6` at an index, from its operands' values. -/
theorem val_main_v6_apply (i : S64.Idx) :
    val_main_v6 (F := F) i = FloatOps.hostDivf (val_main_v4 (F := F) i) (val_main_v5 (F := F) i) := rfl

/-- `%cst_2 = stablehlo.constant dense<1.000000e+04> : tensor<f32>` -/
def val_main_cst_2 : (⟨S_, .f32⟩ : BufTy).Contents (Elt F) :=
  constant S_ .f32 0x461C4000#32
/-- The value of `main_cst_2` at an index, from its operands' values. -/
theorem val_main_cst_2_apply (i : S_.Idx) :
    val_main_cst_2 (F := F) i = FloatOps.ofBits .f32 0x461C4000#32 := rfl

/-- `%7 = stablehlo.broadcast_in_dim %cst_2, dims = [] : (tensor<f32>) -> tensor<64xf32>` -/
def val_main_v7 : (⟨S64, .f32⟩ : BufTy).Contents (Elt F) :=
  broadcastInDim S64 ![] bcast_S_S64 (val_main_cst_2 (F := F))
/-- Where `main_v7` reads its operand. -/
abbrev idx_main_v7 (i : S64.Idx) : S_.Idx := fun a => a.elim0
/-- The value of `main_v7` at an index, from its operands' values. -/
theorem val_main_v7_apply (i : S64.Idx) :
    val_main_v7 (F := F) i = val_main_cst_2 (F := F) (idx_main_v7 i) := by
  unfold val_main_v7
  generalize val_main_cst_2 (F := F) = y
  exact broadcastInDim_apply _ bcast_S_S64 y i (idx_main_v7 i) (fun a => a.elim0)

/-- `%8 = stablehlo.power %7, %6 : tensor<64xf32>` -/
def val_main_v8 : (⟨S64, .f32⟩ : BufTy).Contents (Elt F) :=
  Host.powf (val_main_v7 (F := F)) (val_main_v6 (F := F))
/-- The value of `main_v8` at an index, from its operands' values. -/
theorem val_main_v8_apply (i : S64.Idx) :
    val_main_v8 (F := F) i = FloatOps.hostPowf (val_main_v7 (F := F) i) (val_main_v6 (F := F) i) := rfl

/-- `%cst_3 = stablehlo.constant dense<1.000000e+00> : tensor<f32>` -/
def val_main_cst_3 : (⟨S_, .f32⟩ : BufTy).Contents (Elt F) :=
  constant S_ .f32 0x3F800000#32
/-- The value of `main_cst_3` at an index, from its operands' values. -/
theorem val_main_cst_3_apply (i : S_.Idx) :
    val_main_cst_3 (F := F) i = FloatOps.ofBits .f32 0x3F800000#32 := rfl

/-- `%9 = stablehlo.broadcast_in_dim %cst_3, dims = [] : (tensor<f32>) -> tensor<64xf32>` -/
def val_main_v9 : (⟨S64, .f32⟩ : BufTy).Contents (Elt F) :=
  broadcastInDim S64 ![] bcast_S_S64 (val_main_cst_3 (F := F))
/-- Where `main_v9` reads its operand. -/
abbrev idx_main_v9 (i : S64.Idx) : S_.Idx := fun a => a.elim0
/-- The value of `main_v9` at an index, from its operands' values. -/
theorem val_main_v9_apply (i : S64.Idx) :
    val_main_v9 (F := F) i = val_main_cst_3 (F := F) (idx_main_v9 i) := by
  unfold val_main_v9
  generalize val_main_cst_3 (F := F) = y
  exact broadcastInDim_apply _ bcast_S_S64 y i (idx_main_v9 i) (fun a => a.elim0)

/-- `%10 = stablehlo.divide %9, %8 : tensor<64xf32>` -/
def val_main_v10 : (⟨S64, .f32⟩ : BufTy).Contents (Elt F) :=
  Host.divf (val_main_v9 (F := F)) (val_main_v8 (F := F))
/-- The value of `main_v10` at an index, from its operands' values. -/
theorem val_main_v10_apply (i : S64.Idx) :
    val_main_v10 (F := F) i = FloatOps.hostDivf (val_main_v9 (F := F) i) (val_main_v8 (F := F) i) := rfl

/-- `%11 = stablehlo.convert %arg3 : (tensor<7x256xi32>) -> tensor<7x256xf32>` -/
def val_main_v11 (x3 : (⟨S7x256, .i32⟩ : BufTy).Contents (Elt F)) : (⟨S7x256, .f32⟩ : BufTy).Contents (Elt F) :=
  sitofp .f32 (x3)
/-- The value of `main_v11` at an index, from its operands' values. -/
theorem val_main_v11_apply (x3 : (⟨S7x256, .i32⟩ : BufTy).Contents (Elt F)) (i : S7x256.Idx) :
    val_main_v11 (F := F) x3 i = FloatOps.sitofp .f32 (x3 i) := rfl

/-- `%12 = stablehlo.reshape %11 : (tensor<7x256xf32>) -> tensor<1792x1xf32>` -/
def val_main_v12 (x3 : (⟨S7x256, .i32⟩ : BufTy).Contents (Elt F)) : (⟨S1792x1, .f32⟩ : BufTy).Contents (Elt F) :=
  shapeCast _ (val_main_v11 (F := F) x3) shapeCasts_S7x256_S1792x1
set_option backward.proofsInPublic true in
/-- Where `main_v12` reads its operand. -/
abbrev idx_main_v12 (i : S1792x1.Idx) : S7x256.Idx := fun a => match a with
  | ⟨0, _⟩ => ⟨((i 0).val * 1 + (i 1).val) / 256, by have h0 : (i 0).val < 1792 := (i 0).isLt; have h1 : (i 1).val < 1 := (i 1).isLt; show ((i 0).val * 1 + (i 1).val) / 256 < 7; omega⟩
  | ⟨1, _⟩ => ⟨((i 0).val * 1 + (i 1).val) % 256, by have h0 : (i 0).val < 1792 := (i 0).isLt; have h1 : (i 1).val < 1 := (i 1).isLt; show ((i 0).val * 1 + (i 1).val) % 256 < 256; omega⟩
/-- The value of `main_v12` at an index, from its operands' values. -/
theorem val_main_v12_apply (x3 : (⟨S7x256, .i32⟩ : BufTy).Contents (Elt F)) (i : S1792x1.Idx) :
    val_main_v12 (F := F) x3 i = val_main_v11 (F := F) x3 (idx_main_v12 i) := by
  unfold val_main_v12
  generalize val_main_v11 (F := F) x3 = y
  exact shapeCast_apply y shapeCasts_S7x256_S1792x1 i (idx_main_v12 i)
    (by rewrite [Shape.rowMajor_val_two, Shape.rowMajor_val_two]; have h0 : (i 0).val < 1792 := (i 0).isLt; have h1 : (i 1).val < 1 := (i 1).isLt; show ((i 0).val * 1 + (i 1).val) / 256 * 256 + ((i 0).val * 1 + (i 1).val) % 256 = (i 0).val * 1 + (i 1).val; omega)

/-- `%13 = stablehlo.broadcast_in_dim %10, dims = [1] : (tensor<64xf32>) -> tensor<1x64xf32>` -/
def val_main_v13 : (⟨S1x64, .f32⟩ : BufTy).Contents (Elt F) :=
  broadcastInDim S1x64 ![1] bcast_S64_S1x64_1 (val_main_v10 (F := F))
/-- Where `main_v13` reads its operand. -/
abbrev idx_main_v13 (i : S1x64.Idx) : S64.Idx := fun a => match a with
  | ⟨0, _⟩ => ⟨(i 1).val, (i 1).isLt⟩
/-- The value of `main_v13` at an index, from its operands' values. -/
theorem val_main_v13_apply (i : S1x64.Idx) :
    val_main_v13 (F := F) i = val_main_v10 (F := F) (idx_main_v13 i) := by
  unfold val_main_v13
  generalize val_main_v10 (F := F) = y
  exact broadcastInDim_apply _ bcast_S64_S1x64_1 y i (idx_main_v13 i) (fun a => match a with
    | ⟨0, _⟩ => by show (i 1).val = if (64 : Nat) = 1 then 0 else (i 1).val; rw [if_neg (by decide)])

/-- `%14 = stablehlo.broadcast_in_dim %12, dims = [0, 1] : (tensor<1792x1xf32>) -> tensor<1792x64xf32>` -/
def val_main_v14 (x3 : (⟨S7x256, .i32⟩ : BufTy).Contents (Elt F)) : (⟨S1792x64, .f32⟩ : BufTy).Contents (Elt F) :=
  broadcastInDim S1792x64 ![0, 1] bcast_S1792x1_S1792x64_0_1 (val_main_v12 (F := F) x3)
/-- Where `main_v14` reads its operand. -/
abbrev idx_main_v14 (i : S1792x64.Idx) : S1792x1.Idx := fun a => match a with
  | ⟨0, _⟩ => ⟨(i 0).val, (i 0).isLt⟩
  | ⟨1, _⟩ => ⟨0, Nat.one_pos⟩
/-- The value of `main_v14` at an index, from its operands' values. -/
theorem val_main_v14_apply (x3 : (⟨S7x256, .i32⟩ : BufTy).Contents (Elt F)) (i : S1792x64.Idx) :
    val_main_v14 (F := F) x3 i = val_main_v12 (F := F) x3 (idx_main_v14 i) := by
  unfold val_main_v14
  generalize val_main_v12 (F := F) x3 = y
  exact broadcastInDim_apply _ bcast_S1792x1_S1792x64_0_1 y i (idx_main_v14 i) (fun a => match a with
    | ⟨0, _⟩ => by show (i 0).val = if (1792 : Nat) = 1 then 0 else (i 0).val; rw [if_neg (by decide)]
    | ⟨1, _⟩ => by show 0 = if (1 : Nat) = 1 then 0 else (i 1).val; rw [if_pos rfl])

/-- `%15 = stablehlo.broadcast_in_dim %13, dims = [0, 1] : (tensor<1x64xf32>) -> tensor<1792x64xf32>` -/
def val_main_v15 : (⟨S1792x64, .f32⟩ : BufTy).Contents (Elt F) :=
  broadcastInDim S1792x64 ![0, 1] bcast_S1x64_S1792x64_0_1 (val_main_v13 (F := F))
/-- Where `main_v15` reads its operand. -/
abbrev idx_main_v15 (i : S1792x64.Idx) : S1x64.Idx := fun a => match a with
  | ⟨0, _⟩ => ⟨0, Nat.one_pos⟩
  | ⟨1, _⟩ => ⟨(i 1).val, (i 1).isLt⟩
/-- The value of `main_v15` at an index, from its operands' values. -/
theorem val_main_v15_apply (i : S1792x64.Idx) :
    val_main_v15 (F := F) i = val_main_v13 (F := F) (idx_main_v15 i) := by
  unfold val_main_v15
  generalize val_main_v13 (F := F) = y
  exact broadcastInDim_apply _ bcast_S1x64_S1792x64_0_1 y i (idx_main_v15 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- `%16 = stablehlo.multiply %14, %15 : tensor<1792x64xf32>` -/
def val_main_v16 (x3 : (⟨S7x256, .i32⟩ : BufTy).Contents (Elt F)) : (⟨S1792x64, .f32⟩ : BufTy).Contents (Elt F) :=
  mulf (val_main_v14 (F := F) x3) (val_main_v15 (F := F))
/-- The value of `main_v16` at an index, from its operands' values. -/
theorem val_main_v16_apply (x3 : (⟨S7x256, .i32⟩ : BufTy).Contents (Elt F)) (i : S1792x64.Idx) :
    val_main_v16 (F := F) x3 i = FloatOps.mulf (val_main_v14 (F := F) x3 i) (val_main_v15 (F := F) i) := rfl

/-- `%17 = stablehlo.cosine %16 : tensor<1792x64xf32>` -/
def val_main_v17 (x3 : (⟨S7x256, .i32⟩ : BufTy).Contents (Elt F)) : (⟨S1792x64, .f32⟩ : BufTy).Contents (Elt F) :=
  Host.cos (val_main_v16 (F := F) x3)
/-- The value of `main_v17` at an index, from its operands' values. -/
theorem val_main_v17_apply (x3 : (⟨S7x256, .i32⟩ : BufTy).Contents (Elt F)) (i : S1792x64.Idx) :
    val_main_v17 (F := F) x3 i = FloatOps.hostUnary .cos (val_main_v16 (F := F) x3 i) := rfl

/-- `%18 = stablehlo.sine %16 : tensor<1792x64xf32>` -/
def val_main_v18 (x3 : (⟨S7x256, .i32⟩ : BufTy).Contents (Elt F)) : (⟨S1792x64, .f32⟩ : BufTy).Contents (Elt F) :=
  Host.sin (val_main_v16 (F := F) x3)
/-- The value of `main_v18` at an index, from its operands' values. -/
theorem val_main_v18_apply (x3 : (⟨S7x256, .i32⟩ : BufTy).Contents (Elt F)) (i : S1792x64.Idx) :
    val_main_v18 (F := F) x3 i = FloatOps.hostUnary .sin (val_main_v16 (F := F) x3 i) := rfl

/-- `%19 = stablehlo.concatenate %17, %17, dim = 1 : (tensor<1792x64xf32>, tensor<1792x64xf32>) -> tensor<1792x128xf32>` -/
def val_main_v19 (x3 : (⟨S7x256, .i32⟩ : BufTy).Contents (Elt F)) : (⟨S1792x128, .f32⟩ : BufTy).Contents (Elt F) :=
  concatenate S1792x128 1 [⟨S1792x64, (val_main_v17 (F := F) x3)⟩, ⟨S1792x64, (val_main_v17 (F := F) x3)⟩] concatenates_S1792x64_S1792x64_S1792x128_d1

/-- `%20 = stablehlo.negate %18 : tensor<1792x64xf32>` -/
def val_main_v20 (x3 : (⟨S7x256, .i32⟩ : BufTy).Contents (Elt F)) : (⟨S1792x64, .f32⟩ : BufTy).Contents (Elt F) :=
  Host.negf (val_main_v18 (F := F) x3)
/-- The value of `main_v20` at an index, from its operands' values. -/
theorem val_main_v20_apply (x3 : (⟨S7x256, .i32⟩ : BufTy).Contents (Elt F)) (i : S1792x64.Idx) :
    val_main_v20 (F := F) x3 i = FloatOps.hostNegf (val_main_v18 (F := F) x3 i) := rfl

/-- `%21 = stablehlo.concatenate %18, %20, dim = 1 : (tensor<1792x64xf32>, tensor<1792x64xf32>) -> tensor<1792x128xf32>` -/
def val_main_v21 (x3 : (⟨S7x256, .i32⟩ : BufTy).Contents (Elt F)) : (⟨S1792x128, .f32⟩ : BufTy).Contents (Elt F) :=
  concatenate S1792x128 1 [⟨S1792x64, (val_main_v18 (F := F) x3)⟩, ⟨S1792x64, (val_main_v20 (F := F) x3)⟩] concatenates_S1792x64_S1792x64_S1792x128_d1

/-- `%cst_4 = stablehlo.constant dense<0xFF800000> : tensor<f32>` -/
def val_main_cst_4 : (⟨S_, .f32⟩ : BufTy).Contents (Elt F) :=
  constant S_ .f32 0xFF800000#32
/-- The value of `main_cst_4` at an index, from its operands' values. -/
theorem val_main_cst_4_apply (i : S_.Idx) :
    val_main_cst_4 (F := F) i = FloatOps.ofBits .f32 0xFF800000#32 := rfl

/-- `%22 = stablehlo.reduce(%arg4 init: %cst_4) applies stablehlo.maximum across dimensions = [0] : (tensor<16xf32>, tensor<f32>) -> tensor<f32> {` -/
def val_main_v22 (x4 : (⟨S16, .f32⟩ : BufTy).Contents (Elt F)) : (⟨S_, .f32⟩ : BufTy).Contents (Elt F) :=
  Host.reduce FloatOps.maximumf (x4) (val_main_cst_4 (F := F)) reducesTo_S16_S_d0 h_S_

/-- `%cst_5 = stablehlo.constant dense<1.74386169E-5> : tensor<f32>` -/
def val_main_cst_5 : (⟨S_, .f32⟩ : BufTy).Contents (Elt F) :=
  constant S_ .f32 0x37924925#32
/-- The value of `main_cst_5` at an index, from its operands' values. -/
theorem val_main_cst_5_apply (i : S_.Idx) :
    val_main_cst_5 (F := F) i = FloatOps.ofBits .f32 0x37924925#32 := rfl

/-- `%23 = stablehlo.multiply %22, %cst_5 : tensor<f32>` -/
def val_main_v23 (x4 : (⟨S16, .f32⟩ : BufTy).Contents (Elt F)) : (⟨S_, .f32⟩ : BufTy).Contents (Elt F) :=
  mulf (val_main_v22 (F := F) x4) (val_main_cst_5 (F := F))
/-- The value of `main_v23` at an index, from its operands' values. -/
theorem val_main_v23_apply (x4 : (⟨S16, .f32⟩ : BufTy).Contents (Elt F)) (i : S_.Idx) :
    val_main_v23 (F := F) x4 i = FloatOps.mulf (val_main_v22 (F := F) x4 i) (val_main_cst_5 (F := F) i) := rfl

/-- `%24 = stablehlo.iota dim = 0 : tensor<254xi32>` -/
def val_main_v24 : (⟨S254, .i32⟩ : BufTy).Contents (Elt F) :=
  iotaInDim S254 32 0
/-- The value of `main_v24` at an index, from its operands' values. -/
theorem val_main_v24_apply (i : S254.Idx) :
    val_main_v24 (F := F) i = BitVec.ofNat 32 (i 0).val := rfl

/-- `%c = stablehlo.constant dense<1> : tensor<i32>` -/
def val_main_c : (⟨S_, .i32⟩ : BufTy).Contents (Elt F) :=
  constantI S_ 32 1#32
/-- The value of `main_c` at an index, from its operands' values. -/
theorem val_main_c_apply (i : S_.Idx) :
    val_main_c (F := F) i = 1#32 := rfl

/-- `%25 = stablehlo.broadcast_in_dim %c, dims = [] : (tensor<i32>) -> tensor<254xi32>` -/
def val_main_v25 : (⟨S254, .i32⟩ : BufTy).Contents (Elt F) :=
  broadcastInDim S254 ![] bcast_S_S254 (val_main_c (F := F))
/-- Where `main_v25` reads its operand. -/
abbrev idx_main_v25 (i : S254.Idx) : S_.Idx := fun a => a.elim0
/-- The value of `main_v25` at an index, from its operands' values. -/
theorem val_main_v25_apply (i : S254.Idx) :
    val_main_v25 (F := F) i = val_main_c (F := F) (idx_main_v25 i) := by
  unfold val_main_v25
  generalize val_main_c (F := F) = y
  exact broadcastInDim_apply _ bcast_S_S254 y i (idx_main_v25 i) (fun a => a.elim0)

/-- `%26 = stablehlo.add %25, %24 : tensor<254xi32>` -/
def val_main_v26 : (⟨S254, .i32⟩ : BufTy).Contents (Elt F) :=
  addi (val_main_v25 (F := F)) (val_main_v24 (F := F))
/-- The value of `main_v26` at an index, from its operands' values. -/
theorem val_main_v26_apply (i : S254.Idx) :
    val_main_v26 (F := F) i = IntOp.addi (val_main_v25 (F := F) i) (val_main_v24 (F := F) i) := rfl

/-- `%c_6 = stablehlo.constant dense<23> : tensor<i32>` -/
def val_main_c_6 : (⟨S_, .i32⟩ : BufTy).Contents (Elt F) :=
  constantI S_ 32 23#32
/-- The value of `main_c_6` at an index, from its operands' values. -/
theorem val_main_c_6_apply (i : S_.Idx) :
    val_main_c_6 (F := F) i = 23#32 := rfl

/-- `%27 = stablehlo.broadcast_in_dim %c_6, dims = [] : (tensor<i32>) -> tensor<254xi32>` -/
def val_main_v27 : (⟨S254, .i32⟩ : BufTy).Contents (Elt F) :=
  broadcastInDim S254 ![] bcast_S_S254 (val_main_c_6 (F := F))
/-- Where `main_v27` reads its operand. -/
abbrev idx_main_v27 (i : S254.Idx) : S_.Idx := fun a => a.elim0
/-- The value of `main_v27` at an index, from its operands' values. -/
theorem val_main_v27_apply (i : S254.Idx) :
    val_main_v27 (F := F) i = val_main_c_6 (F := F) (idx_main_v27 i) := by
  unfold val_main_v27
  generalize val_main_c_6 (F := F) = y
  exact broadcastInDim_apply _ bcast_S_S254 y i (idx_main_v27 i) (fun a => a.elim0)

/-- `%28 = stablehlo.shift_left %26, %27 : tensor<254xi32>` -/
def val_main_v28 : (⟨S254, .i32⟩ : BufTy).Contents (Elt F) :=
  Host.shli (val_main_v26 (F := F)) (val_main_v27 (F := F))
/-- The value of `main_v28` at an index, from its operands' values. -/
theorem val_main_v28_apply (i : S254.Idx) :
    val_main_v28 (F := F) i = IntOp.shli .host (val_main_v26 (F := F) i) (val_main_v27 (F := F) i) := rfl

/-- `%29 = stablehlo.bitcast_convert %28 : (tensor<254xi32>) -> tensor<254xf32>` -/
def val_main_v29 : (⟨S254, .f32⟩ : BufTy).Contents (Elt F) :=
  bitcastToFloat (F := F) .f32 (val_main_v28 (F := F))
/-- The value of `main_v29` at an index, from its operands' values. -/
theorem val_main_v29_apply (i : S254.Idx) :
    val_main_v29 (F := F) i = FloatOps.ofBits .f32 (val_main_v28 (F := F) i) := rfl

/-- `%30 = stablehlo.abs %23 : tensor<f32>` -/
def val_main_v30 (x4 : (⟨S16, .f32⟩ : BufTy).Contents (Elt F)) : (⟨S_, .f32⟩ : BufTy).Contents (Elt F) :=
  Host.absf (val_main_v23 (F := F) x4)
/-- The value of `main_v30` at an index, from its operands' values. -/
theorem val_main_v30_apply (x4 : (⟨S16, .f32⟩ : BufTy).Contents (Elt F)) (i : S_.Idx) :
    val_main_v30 (F := F) x4 i = FloatOps.hostAbsf (val_main_v23 (F := F) x4 i) := rfl

/-- `%31 = stablehlo.broadcast_in_dim %30, dims = [] : (tensor<f32>) -> tensor<254xf32>` -/
def val_main_v31 (x4 : (⟨S16, .f32⟩ : BufTy).Contents (Elt F)) : (⟨S254, .f32⟩ : BufTy).Contents (Elt F) :=
  broadcastInDim S254 ![] bcast_S_S254 (val_main_v30 (F := F) x4)
/-- Where `main_v31` reads its operand. -/
abbrev idx_main_v31 (i : S254.Idx) : S_.Idx := fun a => a.elim0
/-- The value of `main_v31` at an index, from its operands' values. -/
theorem val_main_v31_apply (x4 : (⟨S16, .f32⟩ : BufTy).Contents (Elt F)) (i : S254.Idx) :
    val_main_v31 (F := F) x4 i = val_main_v30 (F := F) x4 (idx_main_v31 i) := by
  unfold val_main_v31
  generalize val_main_v30 (F := F) x4 = y
  exact broadcastInDim_apply _ bcast_S_S254 y i (idx_main_v31 i) (fun a => a.elim0)

/-- `%32 = stablehlo.compare GE, %31, %29, FLOAT : (tensor<254xf32>, tensor<254xf32>) -> tensor<254xi1>` -/
def val_main_v32 (x4 : (⟨S16, .f32⟩ : BufTy).Contents (Elt F)) : (⟨S254, .i1⟩ : BufTy).Contents (Elt F) :=
  cmpf .oge (val_main_v31 (F := F) x4) (val_main_v29 (F := F))
/-- The value of `main_v32` at an index, from its operands' values. -/
theorem val_main_v32_apply (x4 : (⟨S16, .f32⟩ : BufTy).Contents (Elt F)) (i : S254.Idx) :
    val_main_v32 (F := F) x4 i = FloatOps.cmpf .oge (val_main_v31 (F := F) x4 i) (val_main_v29 (F := F) i) := rfl

/-- `%33 = stablehlo.convert %32 : (tensor<254xi1>) -> tensor<254xi32>` -/
def val_main_v33 (x4 : (⟨S16, .f32⟩ : BufTy).Contents (Elt F)) : (⟨S254, .i32⟩ : BufTy).Contents (Elt F) :=
  extui 32 (val_main_v32 (F := F) x4) natLt_1_32
/-- The value of `main_v33` at an index, from its operands' values. -/
theorem val_main_v33_apply (x4 : (⟨S16, .f32⟩ : BufTy).Contents (Elt F)) (i : S254.Idx) :
    val_main_v33 (F := F) x4 i = (val_main_v32 (F := F) x4 i).setWidth 32 := rfl

/-- `%c_7 = stablehlo.constant dense<0> : tensor<i32>` -/
def val_main_c_7 : (⟨S_, .i32⟩ : BufTy).Contents (Elt F) :=
  constantI S_ 32 0#32
/-- The value of `main_c_7` at an index, from its operands' values. -/
theorem val_main_c_7_apply (i : S_.Idx) :
    val_main_c_7 (F := F) i = 0#32 := rfl

/-- `%34 = stablehlo.reduce(%33 init: %c_7) applies stablehlo.add across dimensions = [0] : (tensor<254xi32>, tensor<i32>) -> tensor<i32> {` -/
def val_main_v34 (x4 : (⟨S16, .f32⟩ : BufTy).Contents (Elt F)) : (⟨S_, .i32⟩ : BufTy).Contents (Elt F) :=
  Host.reduce IntOp.addi (val_main_v33 (F := F) x4) (val_main_c_7 (F := F)) reducesTo_S254_S_d0 h_S_

/-- `%c_8 = stablehlo.constant dense<0> : tensor<i32>` -/
def val_main_c_8 : (⟨S_, .i32⟩ : BufTy).Contents (Elt F) :=
  constantI S_ 32 0#32
/-- The value of `main_c_8` at an index, from its operands' values. -/
theorem val_main_c_8_apply (i : S_.Idx) :
    val_main_c_8 (F := F) i = 0#32 := rfl

/-- `%35 = stablehlo.compare EQ, %34, %c_8, SIGNED : (tensor<i32>, tensor<i32>) -> tensor<i1>` -/
def val_main_v35 (x4 : (⟨S16, .f32⟩ : BufTy).Contents (Elt F)) : (⟨S_, .i1⟩ : BufTy).Contents (Elt F) :=
  cmpi .eq (val_main_v34 (F := F) x4) (val_main_c_8 (F := F))
/-- The value of `main_v35` at an index, from its operands' values. -/
theorem val_main_v35_apply (x4 : (⟨S16, .f32⟩ : BufTy).Contents (Elt F)) (i : S_.Idx) :
    val_main_v35 (F := F) x4 i = IntOp.cmpi .eq (val_main_v34 (F := F) x4 i) (val_main_c_8 (F := F) i) := rfl

/-- `%36 = stablehlo.abs %23 : tensor<f32>` -/
def val_main_v36 (x4 : (⟨S16, .f32⟩ : BufTy).Contents (Elt F)) : (⟨S_, .f32⟩ : BufTy).Contents (Elt F) :=
  Host.absf (val_main_v23 (F := F) x4)
/-- The value of `main_v36` at an index, from its operands' values. -/
theorem val_main_v36_apply (x4 : (⟨S16, .f32⟩ : BufTy).Contents (Elt F)) (i : S_.Idx) :
    val_main_v36 (F := F) x4 i = FloatOps.hostAbsf (val_main_v23 (F := F) x4 i) := rfl

/-- `%cst_9 = stablehlo.constant dense<5.000000e-01> : tensor<f32>` -/
def val_main_cst_9 : (⟨S_, .f32⟩ : BufTy).Contents (Elt F) :=
  constant S_ .f32 0x3F000000#32
/-- The value of `main_cst_9` at an index, from its operands' values. -/
theorem val_main_cst_9_apply (i : S_.Idx) :
    val_main_cst_9 (F := F) i = FloatOps.ofBits .f32 0x3F000000#32 := rfl

/-- `%37 = stablehlo.multiply %36, %cst_9 : tensor<f32>` -/
def val_main_v37 (x4 : (⟨S16, .f32⟩ : BufTy).Contents (Elt F)) : (⟨S_, .f32⟩ : BufTy).Contents (Elt F) :=
  mulf (val_main_v36 (F := F) x4) (val_main_cst_9 (F := F))
/-- The value of `main_v37` at an index, from its operands' values. -/
theorem val_main_v37_apply (x4 : (⟨S16, .f32⟩ : BufTy).Contents (Elt F)) (i : S_.Idx) :
    val_main_v37 (F := F) x4 i = FloatOps.mulf (val_main_v36 (F := F) x4 i) (val_main_cst_9 (F := F) i) := rfl

/-- `%cst_10 = stablehlo.constant dense<1.70141183E+38> : tensor<f32>` -/
def val_main_cst_10 : (⟨S_, .f32⟩ : BufTy).Contents (Elt F) :=
  constant S_ .f32 0x7F000000#32
/-- The value of `main_cst_10` at an index, from its operands' values. -/
theorem val_main_cst_10_apply (i : S_.Idx) :
    val_main_cst_10 (F := F) i = FloatOps.ofBits .f32 0x7F000000#32 := rfl

/-- `%38 = stablehlo.compare GE, %37, %cst_10, FLOAT : (tensor<f32>, tensor<f32>) -> tensor<i1>` -/
def val_main_v38 (x4 : (⟨S16, .f32⟩ : BufTy).Contents (Elt F)) : (⟨S_, .i1⟩ : BufTy).Contents (Elt F) :=
  cmpf .oge (val_main_v37 (F := F) x4) (val_main_cst_10 (F := F))
/-- The value of `main_v38` at an index, from its operands' values. -/
theorem val_main_v38_apply (x4 : (⟨S16, .f32⟩ : BufTy).Contents (Elt F)) (i : S_.Idx) :
    val_main_v38 (F := F) x4 i = FloatOps.cmpf .oge (val_main_v37 (F := F) x4 i) (val_main_cst_10 (F := F) i) := rfl

/-- `%39 = stablehlo.or %35, %38 : tensor<i1>` -/
def val_main_v39 (x4 : (⟨S16, .f32⟩ : BufTy).Contents (Elt F)) : (⟨S_, .i1⟩ : BufTy).Contents (Elt F) :=
  ori (val_main_v35 (F := F) x4) (val_main_v38 (F := F) x4)
/-- The value of `main_v39` at an index, from its operands' values. -/
theorem val_main_v39_apply (x4 : (⟨S16, .f32⟩ : BufTy).Contents (Elt F)) (i : S_.Idx) :
    val_main_v39 (F := F) x4 i = IntOp.ori (val_main_v35 (F := F) x4 i) (val_main_v38 (F := F) x4 i) := rfl

/-- `%c_11 = stablehlo.constant dense<126> : tensor<i32>` -/
def val_main_c_11 : (⟨S_, .i32⟩ : BufTy).Contents (Elt F) :=
  constantI S_ 32 126#32
/-- The value of `main_c_11` at an index, from its operands' values. -/
theorem val_main_c_11_apply (i : S_.Idx) :
    val_main_c_11 (F := F) i = 126#32 := rfl

/-- `%40 = stablehlo.subtract %34, %c_11 : tensor<i32>` -/
def val_main_v40 (x4 : (⟨S16, .f32⟩ : BufTy).Contents (Elt F)) : (⟨S_, .i32⟩ : BufTy).Contents (Elt F) :=
  subi (val_main_v34 (F := F) x4) (val_main_c_11 (F := F))
/-- The value of `main_v40` at an index, from its operands' values. -/
theorem val_main_v40_apply (x4 : (⟨S16, .f32⟩ : BufTy).Contents (Elt F)) (i : S_.Idx) :
    val_main_v40 (F := F) x4 i = IntOp.subi (val_main_v34 (F := F) x4 i) (val_main_c_11 (F := F) i) := rfl

/-- `%c_12 = stablehlo.constant dense<0> : tensor<i32>` -/
def val_main_c_12 : (⟨S_, .i32⟩ : BufTy).Contents (Elt F) :=
  constantI S_ 32 0#32
/-- The value of `main_c_12` at an index, from its operands' values. -/
theorem val_main_c_12_apply (i : S_.Idx) :
    val_main_c_12 (F := F) i = 0#32 := rfl

-- @_where's %0 = stablehlo.convert %arg1 : tensor<i32>, in %41 = func.call @_where(…) (record main_call0)
def val_main_call0_v0 : (⟨S_, .i32⟩ : BufTy).Contents (Elt F) :=
  id (val_main_c_12 (F := F))
/-- The value of `main_call0_v0` at an index, from its operands' values. -/
theorem val_main_call0_v0_apply (i : S_.Idx) :
    val_main_call0_v0 (F := F) i = (val_main_c_12 (F := F) i) := rfl

/-- `%41 = func.call @_where(…) (record main_call0) result 0: @_where's %1 = stablehlo.select %arg0, %0, %arg2 : tensor<i1>, tensor<i32>` -/
def val_main_v41 (x4 : (⟨S16, .f32⟩ : BufTy).Contents (Elt F)) : (⟨S_, .i32⟩ : BufTy).Contents (Elt F) :=
  select (val_main_v39 (F := F) x4) (val_main_call0_v0 (F := F)) (val_main_v40 (F := F) x4)
/-- The value of `main_v41` at an index, from its operands' values. -/
theorem val_main_v41_apply (x4 : (⟨S16, .f32⟩ : BufTy).Contents (Elt F)) (i : S_.Idx) :
    val_main_v41 (F := F) x4 i = Scalar.select (val_main_v39 (F := F) x4 i) (val_main_call0_v0 (F := F) i) (val_main_v40 (F := F) x4 i) := rfl

/-- `%cst_13 = stablehlo.constant dense<0.000000e+00> : tensor<f32>` -/
def val_main_cst_13 : (⟨S_, .f32⟩ : BufTy).Contents (Elt F) :=
  constant S_ .f32 0x00000000#32
/-- The value of `main_cst_13` at an index, from its operands' values. -/
theorem val_main_cst_13_apply (i : S_.Idx) :
    val_main_cst_13 (F := F) i = FloatOps.ofBits .f32 0x00000000#32 := rfl

/-- `%42 = stablehlo.compare EQ, %22, %cst_13, FLOAT : (tensor<f32>, tensor<f32>) -> tensor<i1>` -/
def val_main_v42 (x4 : (⟨S16, .f32⟩ : BufTy).Contents (Elt F)) : (⟨S_, .i1⟩ : BufTy).Contents (Elt F) :=
  cmpf .oeq (val_main_v22 (F := F) x4) (val_main_cst_13 (F := F))
/-- The value of `main_v42` at an index, from its operands' values. -/
theorem val_main_v42_apply (x4 : (⟨S16, .f32⟩ : BufTy).Contents (Elt F)) (i : S_.Idx) :
    val_main_v42 (F := F) x4 i = FloatOps.cmpf .oeq (val_main_v22 (F := F) x4 i) (val_main_cst_13 (F := F) i) := rfl

/-- `%c_14 = stablehlo.constant dense<0> : tensor<i32>` -/
def val_main_c_14 : (⟨S_, .i32⟩ : BufTy).Contents (Elt F) :=
  constantI S_ 32 0#32
/-- The value of `main_c_14` at an index, from its operands' values. -/
theorem val_main_c_14_apply (i : S_.Idx) :
    val_main_c_14 (F := F) i = 0#32 := rfl

-- @_where's %0 = stablehlo.convert %arg1 : tensor<i32>, in %43 = func.call @_where(…) (record main_call1)
def val_main_call1_v0 : (⟨S_, .i32⟩ : BufTy).Contents (Elt F) :=
  id (val_main_c_14 (F := F))
/-- The value of `main_call1_v0` at an index, from its operands' values. -/
theorem val_main_call1_v0_apply (i : S_.Idx) :
    val_main_call1_v0 (F := F) i = (val_main_c_14 (F := F) i) := rfl

/-- `%43 = func.call @_where(…) (record main_call1) result 0: @_where's %1 = stablehlo.select %arg0, %0, %arg2 : tensor<i1>, tensor<i32>` -/
def val_main_v43 (x4 : (⟨S16, .f32⟩ : BufTy).Contents (Elt F)) : (⟨S_, .i32⟩ : BufTy).Contents (Elt F) :=
  select (val_main_v42 (F := F) x4) (val_main_call1_v0 (F := F)) (val_main_v41 (F := F) x4)
/-- The value of `main_v43` at an index, from its operands' values. -/
theorem val_main_v43_apply (x4 : (⟨S16, .f32⟩ : BufTy).Contents (Elt F)) (i : S_.Idx) :
    val_main_v43 (F := F) x4 i = Scalar.select (val_main_v42 (F := F) x4 i) (val_main_call1_v0 (F := F) i) (val_main_v41 (F := F) x4 i) := rfl

/-- `%c_15 = stablehlo.constant dense<127> : tensor<i32>` -/
def val_main_c_15 : (⟨S_, .i32⟩ : BufTy).Contents (Elt F) :=
  constantI S_ 32 127#32
/-- The value of `main_c_15` at an index, from its operands' values. -/
theorem val_main_c_15_apply (i : S_.Idx) :
    val_main_c_15 (F := F) i = 127#32 := rfl

/-- `%44 = stablehlo.add %43, %c_15 : tensor<i32>` -/
def val_main_v44 (x4 : (⟨S16, .f32⟩ : BufTy).Contents (Elt F)) : (⟨S_, .i32⟩ : BufTy).Contents (Elt F) :=
  addi (val_main_v43 (F := F) x4) (val_main_c_15 (F := F))
/-- The value of `main_v44` at an index, from its operands' values. -/
theorem val_main_v44_apply (x4 : (⟨S16, .f32⟩ : BufTy).Contents (Elt F)) (i : S_.Idx) :
    val_main_v44 (F := F) x4 i = IntOp.addi (val_main_v43 (F := F) x4 i) (val_main_c_15 (F := F) i) := rfl

/-- `%c_16 = stablehlo.constant dense<0> : tensor<i32>` -/
def val_main_c_16 : (⟨S_, .i32⟩ : BufTy).Contents (Elt F) :=
  constantI S_ 32 0#32
/-- The value of `main_c_16` at an index, from its operands' values. -/
theorem val_main_c_16_apply (i : S_.Idx) :
    val_main_c_16 (F := F) i = 0#32 := rfl

/-- `%c_17 = stablehlo.constant dense<255> : tensor<i32>` -/
def val_main_c_17 : (⟨S_, .i32⟩ : BufTy).Contents (Elt F) :=
  constantI S_ 32 255#32
/-- The value of `main_c_17` at an index, from its operands' values. -/
theorem val_main_c_17_apply (i : S_.Idx) :
    val_main_c_17 (F := F) i = 255#32 := rfl

-- @clip's %0 = stablehlo.convert %arg1 : tensor<i32>, in %45 = func.call @clip(…) (record main_call2)
def val_main_call2_v0 : (⟨S_, .i32⟩ : BufTy).Contents (Elt F) :=
  id (val_main_c_16 (F := F))
/-- The value of `main_call2_v0` at an index, from its operands' values. -/
theorem val_main_call2_v0_apply (i : S_.Idx) :
    val_main_call2_v0 (F := F) i = (val_main_c_16 (F := F) i) := rfl

-- @clip's %1 = stablehlo.maximum %0, %arg0 : tensor<i32>, in %45 = func.call @clip(…) (record main_call2)
def val_main_call2_v1 (x4 : (⟨S16, .f32⟩ : BufTy).Contents (Elt F)) : (⟨S_, .i32⟩ : BufTy).Contents (Elt F) :=
  maxsi (val_main_call2_v0 (F := F)) (val_main_v44 (F := F) x4)
/-- The value of `main_call2_v1` at an index, from its operands' values. -/
theorem val_main_call2_v1_apply (x4 : (⟨S16, .f32⟩ : BufTy).Contents (Elt F)) (i : S_.Idx) :
    val_main_call2_v1 (F := F) x4 i = IntOp.maxsi (val_main_call2_v0 (F := F) i) (val_main_v44 (F := F) x4 i) := rfl

-- @clip's %2 = stablehlo.convert %arg2 : tensor<i32>, in %45 = func.call @clip(…) (record main_call2)
def val_main_call2_v2 : (⟨S_, .i32⟩ : BufTy).Contents (Elt F) :=
  id (val_main_c_17 (F := F))
/-- The value of `main_call2_v2` at an index, from its operands' values. -/
theorem val_main_call2_v2_apply (i : S_.Idx) :
    val_main_call2_v2 (F := F) i = (val_main_c_17 (F := F) i) := rfl

/-- `%45 = func.call @clip(…) (record main_call2) result 0: @clip's %3 = stablehlo.minimum %2, %1 : tensor<i32>` -/
def val_main_v45 (x4 : (⟨S16, .f32⟩ : BufTy).Contents (Elt F)) : (⟨S_, .i32⟩ : BufTy).Contents (Elt F) :=
  minsi (val_main_call2_v2 (F := F)) (val_main_call2_v1 (F := F) x4)
/-- The value of `main_v45` at an index, from its operands' values. -/
theorem val_main_v45_apply (x4 : (⟨S16, .f32⟩ : BufTy).Contents (Elt F)) (i : S_.Idx) :
    val_main_v45 (F := F) x4 i = IntOp.minsi (val_main_call2_v2 (F := F) i) (val_main_call2_v1 (F := F) x4 i) := rfl

/-- `%c_18 = stablehlo.constant dense<23> : tensor<i32>` -/
def val_main_c_18 : (⟨S_, .i32⟩ : BufTy).Contents (Elt F) :=
  constantI S_ 32 23#32
/-- The value of `main_c_18` at an index, from its operands' values. -/
theorem val_main_c_18_apply (i : S_.Idx) :
    val_main_c_18 (F := F) i = 23#32 := rfl

/-- `%46 = stablehlo.shift_left %45, %c_18 : tensor<i32>` -/
def val_main_v46 (x4 : (⟨S16, .f32⟩ : BufTy).Contents (Elt F)) : (⟨S_, .i32⟩ : BufTy).Contents (Elt F) :=
  Host.shli (val_main_v45 (F := F) x4) (val_main_c_18 (F := F))
/-- The value of `main_v46` at an index, from its operands' values. -/
theorem val_main_v46_apply (x4 : (⟨S16, .f32⟩ : BufTy).Contents (Elt F)) (i : S_.Idx) :
    val_main_v46 (F := F) x4 i = IntOp.shli .host (val_main_v45 (F := F) x4 i) (val_main_c_18 (F := F) i) := rfl

/-- `%47 = stablehlo.bitcast_convert %46 : (tensor<i32>) -> tensor<f32>` -/
def val_main_v47 (x4 : (⟨S16, .f32⟩ : BufTy).Contents (Elt F)) : (⟨S_, .f32⟩ : BufTy).Contents (Elt F) :=
  bitcastToFloat (F := F) .f32 (val_main_v46 (F := F) x4)
/-- The value of `main_v47` at an index, from its operands' values. -/
theorem val_main_v47_apply (x4 : (⟨S16, .f32⟩ : BufTy).Contents (Elt F)) (i : S_.Idx) :
    val_main_v47 (F := F) x4 i = FloatOps.ofBits .f32 (val_main_v46 (F := F) x4 i) := rfl

/-- `%48 = stablehlo.negate %43 : tensor<i32>` -/
def val_main_v48 (x4 : (⟨S16, .f32⟩ : BufTy).Contents (Elt F)) : (⟨S_, .i32⟩ : BufTy).Contents (Elt F) :=
  negi (val_main_v43 (F := F) x4)
/-- The value of `main_v48` at an index, from its operands' values. -/
theorem val_main_v48_apply (x4 : (⟨S16, .f32⟩ : BufTy).Contents (Elt F)) (i : S_.Idx) :
    val_main_v48 (F := F) x4 i = -(val_main_v43 (F := F) x4 i) := rfl

/-- `%c_19 = stablehlo.constant dense<127> : tensor<i32>` -/
def val_main_c_19 : (⟨S_, .i32⟩ : BufTy).Contents (Elt F) :=
  constantI S_ 32 127#32
/-- The value of `main_c_19` at an index, from its operands' values. -/
theorem val_main_c_19_apply (i : S_.Idx) :
    val_main_c_19 (F := F) i = 127#32 := rfl

/-- `%49 = stablehlo.add %48, %c_19 : tensor<i32>` -/
def val_main_v49 (x4 : (⟨S16, .f32⟩ : BufTy).Contents (Elt F)) : (⟨S_, .i32⟩ : BufTy).Contents (Elt F) :=
  addi (val_main_v48 (F := F) x4) (val_main_c_19 (F := F))
/-- The value of `main_v49` at an index, from its operands' values. -/
theorem val_main_v49_apply (x4 : (⟨S16, .f32⟩ : BufTy).Contents (Elt F)) (i : S_.Idx) :
    val_main_v49 (F := F) x4 i = IntOp.addi (val_main_v48 (F := F) x4 i) (val_main_c_19 (F := F) i) := rfl

/-- `%c_20 = stablehlo.constant dense<0> : tensor<i32>` -/
def val_main_c_20 : (⟨S_, .i32⟩ : BufTy).Contents (Elt F) :=
  constantI S_ 32 0#32
/-- The value of `main_c_20` at an index, from its operands' values. -/
theorem val_main_c_20_apply (i : S_.Idx) :
    val_main_c_20 (F := F) i = 0#32 := rfl

/-- `%c_21 = stablehlo.constant dense<255> : tensor<i32>` -/
def val_main_c_21 : (⟨S_, .i32⟩ : BufTy).Contents (Elt F) :=
  constantI S_ 32 255#32
/-- The value of `main_c_21` at an index, from its operands' values. -/
theorem val_main_c_21_apply (i : S_.Idx) :
    val_main_c_21 (F := F) i = 255#32 := rfl

-- @clip's %0 = stablehlo.convert %arg1 : tensor<i32>, in %50 = func.call @clip(…) (record main_call3)
def val_main_call3_v0 : (⟨S_, .i32⟩ : BufTy).Contents (Elt F) :=
  id (val_main_c_20 (F := F))
/-- The value of `main_call3_v0` at an index, from its operands' values. -/
theorem val_main_call3_v0_apply (i : S_.Idx) :
    val_main_call3_v0 (F := F) i = (val_main_c_20 (F := F) i) := rfl

-- @clip's %1 = stablehlo.maximum %0, %arg0 : tensor<i32>, in %50 = func.call @clip(…) (record main_call3)
def val_main_call3_v1 (x4 : (⟨S16, .f32⟩ : BufTy).Contents (Elt F)) : (⟨S_, .i32⟩ : BufTy).Contents (Elt F) :=
  maxsi (val_main_call3_v0 (F := F)) (val_main_v49 (F := F) x4)
/-- The value of `main_call3_v1` at an index, from its operands' values. -/
theorem val_main_call3_v1_apply (x4 : (⟨S16, .f32⟩ : BufTy).Contents (Elt F)) (i : S_.Idx) :
    val_main_call3_v1 (F := F) x4 i = IntOp.maxsi (val_main_call3_v0 (F := F) i) (val_main_v49 (F := F) x4 i) := rfl

-- @clip's %2 = stablehlo.convert %arg2 : tensor<i32>, in %50 = func.call @clip(…) (record main_call3)
def val_main_call3_v2 : (⟨S_, .i32⟩ : BufTy).Contents (Elt F) :=
  id (val_main_c_21 (F := F))
/-- The value of `main_call3_v2` at an index, from its operands' values. -/
theorem val_main_call3_v2_apply (i : S_.Idx) :
    val_main_call3_v2 (F := F) i = (val_main_c_21 (F := F) i) := rfl

/-- `%50 = func.call @clip(…) (record main_call3) result 0: @clip's %3 = stablehlo.minimum %2, %1 : tensor<i32>` -/
def val_main_v50 (x4 : (⟨S16, .f32⟩ : BufTy).Contents (Elt F)) : (⟨S_, .i32⟩ : BufTy).Contents (Elt F) :=
  minsi (val_main_call3_v2 (F := F)) (val_main_call3_v1 (F := F) x4)
/-- The value of `main_v50` at an index, from its operands' values. -/
theorem val_main_v50_apply (x4 : (⟨S16, .f32⟩ : BufTy).Contents (Elt F)) (i : S_.Idx) :
    val_main_v50 (F := F) x4 i = IntOp.minsi (val_main_call3_v2 (F := F) i) (val_main_call3_v1 (F := F) x4 i) := rfl

/-- `%c_22 = stablehlo.constant dense<23> : tensor<i32>` -/
def val_main_c_22 : (⟨S_, .i32⟩ : BufTy).Contents (Elt F) :=
  constantI S_ 32 23#32
/-- The value of `main_c_22` at an index, from its operands' values. -/
theorem val_main_c_22_apply (i : S_.Idx) :
    val_main_c_22 (F := F) i = 23#32 := rfl

/-- `%51 = stablehlo.shift_left %50, %c_22 : tensor<i32>` -/
def val_main_v51 (x4 : (⟨S16, .f32⟩ : BufTy).Contents (Elt F)) : (⟨S_, .i32⟩ : BufTy).Contents (Elt F) :=
  Host.shli (val_main_v50 (F := F) x4) (val_main_c_22 (F := F))
/-- The value of `main_v51` at an index, from its operands' values. -/
theorem val_main_v51_apply (x4 : (⟨S16, .f32⟩ : BufTy).Contents (Elt F)) (i : S_.Idx) :
    val_main_v51 (F := F) x4 i = IntOp.shli .host (val_main_v50 (F := F) x4 i) (val_main_c_22 (F := F) i) := rfl

/-- `%52 = stablehlo.bitcast_convert %51 : (tensor<i32>) -> tensor<f32>` -/
def val_main_v52 (x4 : (⟨S16, .f32⟩ : BufTy).Contents (Elt F)) : (⟨S_, .f32⟩ : BufTy).Contents (Elt F) :=
  bitcastToFloat (F := F) .f32 (val_main_v51 (F := F) x4)
/-- The value of `main_v52` at an index, from its operands' values. -/
theorem val_main_v52_apply (x4 : (⟨S16, .f32⟩ : BufTy).Contents (Elt F)) (i : S_.Idx) :
    val_main_v52 (F := F) x4 i = FloatOps.ofBits .f32 (val_main_v51 (F := F) x4 i) := rfl

/-- `%53 = stablehlo.reshape %arg0 : (tensor<7x256x48x128xbf16>) -> tensor<1792x6144xbf16>` -/
def val_main_v53 (x0 : (⟨S7x256x48x128, .bf16⟩ : BufTy).Contents (Elt F)) : (⟨S1792x6144, .bf16⟩ : BufTy).Contents (Elt F) :=
  shapeCast _ (x0) shapeCasts_S7x256x48x128_S1792x6144
set_option backward.proofsInPublic true in
/-- Where `main_v53` reads its operand. -/
abbrev idx_main_v53 (i : S1792x6144.Idx) : S7x256x48x128.Idx := fun a => match a with
  | ⟨0, _⟩ => ⟨((i 0).val * 6144 + (i 1).val) / 1572864, by have h0 : (i 0).val < 1792 := (i 0).isLt; have h1 : (i 1).val < 6144 := (i 1).isLt; show ((i 0).val * 6144 + (i 1).val) / 1572864 < 7; omega⟩
  | ⟨1, _⟩ => ⟨((i 0).val * 6144 + (i 1).val) / 6144 % 256, by have h0 : (i 0).val < 1792 := (i 0).isLt; have h1 : (i 1).val < 6144 := (i 1).isLt; show ((i 0).val * 6144 + (i 1).val) / 6144 % 256 < 256; omega⟩
  | ⟨2, _⟩ => ⟨((i 0).val * 6144 + (i 1).val) / 128 % 48, by have h0 : (i 0).val < 1792 := (i 0).isLt; have h1 : (i 1).val < 6144 := (i 1).isLt; show ((i 0).val * 6144 + (i 1).val) / 128 % 48 < 48; omega⟩
  | ⟨3, _⟩ => ⟨((i 0).val * 6144 + (i 1).val) % 128, by have h0 : (i 0).val < 1792 := (i 0).isLt; have h1 : (i 1).val < 6144 := (i 1).isLt; show ((i 0).val * 6144 + (i 1).val) % 128 < 128; omega⟩
/-- The value of `main_v53` at an index, from its operands' values. -/
theorem val_main_v53_apply (x0 : (⟨S7x256x48x128, .bf16⟩ : BufTy).Contents (Elt F)) (i : S1792x6144.Idx) :
    val_main_v53 (F := F) x0 i = x0 (idx_main_v53 i) := by
  unfold val_main_v53
  exact shapeCast_apply x0 shapeCasts_S7x256x48x128_S1792x6144 i (idx_main_v53 i)
    (by rewrite [Shape.rowMajor_val_four, Shape.rowMajor_val_two]; have h0 : (i 0).val < 1792 := (i 0).isLt; have h1 : (i 1).val < 6144 := (i 1).isLt; show ((((i 0).val * 6144 + (i 1).val) / 1572864 * 256 + ((i 0).val * 6144 + (i 1).val) / 6144 % 256) * 48 + ((i 0).val * 6144 + (i 1).val) / 128 % 48) * 128 + ((i 0).val * 6144 + (i 1).val) % 128 = (i 0).val * 6144 + (i 1).val; omega)

/-- `%54 = stablehlo.reshape %arg1 : (tensor<7x256x8x128xbf16>) -> tensor<1792x1024xbf16>` -/
def val_main_v54 (x1 : (⟨S7x256x8x128, .bf16⟩ : BufTy).Contents (Elt F)) : (⟨S1792x1024, .bf16⟩ : BufTy).Contents (Elt F) :=
  shapeCast _ (x1) shapeCasts_S7x256x8x128_S1792x1024
set_option backward.proofsInPublic true in
/-- Where `main_v54` reads its operand. -/
abbrev idx_main_v54 (i : S1792x1024.Idx) : S7x256x8x128.Idx := fun a => match a with
  | ⟨0, _⟩ => ⟨((i 0).val * 1024 + (i 1).val) / 262144, by have h0 : (i 0).val < 1792 := (i 0).isLt; have h1 : (i 1).val < 1024 := (i 1).isLt; show ((i 0).val * 1024 + (i 1).val) / 262144 < 7; omega⟩
  | ⟨1, _⟩ => ⟨((i 0).val * 1024 + (i 1).val) / 1024 % 256, by have h0 : (i 0).val < 1792 := (i 0).isLt; have h1 : (i 1).val < 1024 := (i 1).isLt; show ((i 0).val * 1024 + (i 1).val) / 1024 % 256 < 256; omega⟩
  | ⟨2, _⟩ => ⟨((i 0).val * 1024 + (i 1).val) / 128 % 8, by have h0 : (i 0).val < 1792 := (i 0).isLt; have h1 : (i 1).val < 1024 := (i 1).isLt; show ((i 0).val * 1024 + (i 1).val) / 128 % 8 < 8; omega⟩
  | ⟨3, _⟩ => ⟨((i 0).val * 1024 + (i 1).val) % 128, by have h0 : (i 0).val < 1792 := (i 0).isLt; have h1 : (i 1).val < 1024 := (i 1).isLt; show ((i 0).val * 1024 + (i 1).val) % 128 < 128; omega⟩
/-- The value of `main_v54` at an index, from its operands' values. -/
theorem val_main_v54_apply (x1 : (⟨S7x256x8x128, .bf16⟩ : BufTy).Contents (Elt F)) (i : S1792x1024.Idx) :
    val_main_v54 (F := F) x1 i = x1 (idx_main_v54 i) := by
  unfold val_main_v54
  exact shapeCast_apply x1 shapeCasts_S7x256x8x128_S1792x1024 i (idx_main_v54 i)
    (by rewrite [Shape.rowMajor_val_four, Shape.rowMajor_val_two]; have h0 : (i 0).val < 1792 := (i 0).isLt; have h1 : (i 1).val < 1024 := (i 1).isLt; show ((((i 0).val * 1024 + (i 1).val) / 262144 * 256 + ((i 0).val * 1024 + (i 1).val) / 1024 % 256) * 8 + ((i 0).val * 1024 + (i 1).val) / 128 % 8) * 128 + ((i 0).val * 1024 + (i 1).val) % 128 = (i 0).val * 1024 + (i 1).val; omega)

/-- `%55 = stablehlo.reshape %arg2 : (tensor<7x256x8x128xbf16>) -> tensor<1792x1024xbf16>` -/
def val_main_v55 (x2 : (⟨S7x256x8x128, .bf16⟩ : BufTy).Contents (Elt F)) : (⟨S1792x1024, .bf16⟩ : BufTy).Contents (Elt F) :=
  shapeCast _ (x2) shapeCasts_S7x256x8x128_S1792x1024
set_option backward.proofsInPublic true in
/-- Where `main_v55` reads its operand. -/
abbrev idx_main_v55 (i : S1792x1024.Idx) : S7x256x8x128.Idx := fun a => match a with
  | ⟨0, _⟩ => ⟨((i 0).val * 1024 + (i 1).val) / 262144, by have h0 : (i 0).val < 1792 := (i 0).isLt; have h1 : (i 1).val < 1024 := (i 1).isLt; show ((i 0).val * 1024 + (i 1).val) / 262144 < 7; omega⟩
  | ⟨1, _⟩ => ⟨((i 0).val * 1024 + (i 1).val) / 1024 % 256, by have h0 : (i 0).val < 1792 := (i 0).isLt; have h1 : (i 1).val < 1024 := (i 1).isLt; show ((i 0).val * 1024 + (i 1).val) / 1024 % 256 < 256; omega⟩
  | ⟨2, _⟩ => ⟨((i 0).val * 1024 + (i 1).val) / 128 % 8, by have h0 : (i 0).val < 1792 := (i 0).isLt; have h1 : (i 1).val < 1024 := (i 1).isLt; show ((i 0).val * 1024 + (i 1).val) / 128 % 8 < 8; omega⟩
  | ⟨3, _⟩ => ⟨((i 0).val * 1024 + (i 1).val) % 128, by have h0 : (i 0).val < 1792 := (i 0).isLt; have h1 : (i 1).val < 1024 := (i 1).isLt; show ((i 0).val * 1024 + (i 1).val) % 128 < 128; omega⟩
/-- The value of `main_v55` at an index, from its operands' values. -/
theorem val_main_v55_apply (x2 : (⟨S7x256x8x128, .bf16⟩ : BufTy).Contents (Elt F)) (i : S1792x1024.Idx) :
    val_main_v55 (F := F) x2 i = x2 (idx_main_v55 i) := by
  unfold val_main_v55
  exact shapeCast_apply x2 shapeCasts_S7x256x8x128_S1792x1024 i (idx_main_v55 i)
    (by rewrite [Shape.rowMajor_val_four, Shape.rowMajor_val_two]; have h0 : (i 0).val < 1792 := (i 0).isLt; have h1 : (i 1).val < 1024 := (i 1).isLt; show ((((i 0).val * 1024 + (i 1).val) / 262144 * 256 + ((i 0).val * 1024 + (i 1).val) / 1024 % 256) * 8 + ((i 0).val * 1024 + (i 1).val) / 128 % 8) * 128 + ((i 0).val * 1024 + (i 1).val) % 128 = (i 0).val * 1024 + (i 1).val; omega)

/-- `%56 = stablehlo.concatenate %53, %54, %55, dim = 1 : (tensor<1792x6144xbf16>, tensor<1792x1024xbf16>, tensor<1792x1024xbf16>) -> tensor<1792x8192xbf16>` -/
def val_main_v56 (x0 : (⟨S7x256x48x128, .bf16⟩ : BufTy).Contents (Elt F)) (x1 x2 : (⟨S7x256x8x128, .bf16⟩ : BufTy).Contents (Elt F)) : (⟨S1792x8192, .bf16⟩ : BufTy).Contents (Elt F) :=
  (concatenate S1792x8192 1 [⟨S1792x6144, ((val_main_v53 (F := F) x0) : (⟨S1792x6144, .bf16⟩ : BufTy).Contents (Elt F))⟩, ⟨S1792x1024, ((val_main_v54 (F := F) x1) : (⟨S1792x1024, .bf16⟩ : BufTy).Contents (Elt F))⟩, ⟨S1792x1024, ((val_main_v55 (F := F) x2) : (⟨S1792x1024, .bf16⟩ : BufTy).Contents (Elt F))⟩] concatenates_S1792x6144_S1792x1024_S1792x1024_S1792x8192_d1 : (⟨S1792x8192, .bf16⟩ : BufTy).Contents (Elt F))

/-- `%57 = stablehlo.reshape %52 : (tensor<f32>) -> tensor<1xf32>` -/
def val_main_v57 (x4 : (⟨S16, .f32⟩ : BufTy).Contents (Elt F)) : (⟨S1, .f32⟩ : BufTy).Contents (Elt F) :=
  shapeCast _ (val_main_v52 (F := F) x4) shapeCasts_S_S1

/-- `%58 = stablehlo.multiply %47, %arg6 : tensor<f32>` -/
def val_main_v59 (x4 : (⟨S16, .f32⟩ : BufTy).Contents (Elt F)) (x6 : (⟨S_, .f32⟩ : BufTy).Contents (Elt F)) : (⟨S_, .f32⟩ : BufTy).Contents (Elt F) :=
  mulf (val_main_v47 (F := F) x4) (x6)
/-- The value of `main_v59` at an index, from its operands' values. -/
theorem val_main_v59_apply (x4 : (⟨S16, .f32⟩ : BufTy).Contents (Elt F)) (x6 : (⟨S_, .f32⟩ : BufTy).Contents (Elt F)) (i : S_.Idx) :
    val_main_v59 (F := F) x4 x6 i = FloatOps.mulf (val_main_v47 (F := F) x4 i) (x6 i) := rfl

/-- `%59 = stablehlo.reshape %58 : (tensor<f32>) -> tensor<1xf32>` -/
def val_main_v60 (x4 : (⟨S16, .f32⟩ : BufTy).Contents (Elt F)) (x6 : (⟨S_, .f32⟩ : BufTy).Contents (Elt F)) : (⟨S1, .f32⟩ : BufTy).Contents (Elt F) :=
  shapeCast _ (val_main_v59 (F := F) x4 x6) shapeCasts_S_S1

end Cert.KernelIdeal.Vals

end
-- ==== Proof.KernelRegion0.lean ====
/- What region 0 of the kernel's program leaves in its two output arrays. -/
module

public import proofs.«01_k».proof.Proof.Gen.KernelIdeal.Frame
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The offsets of a whole-array access are zero. -/
theorem hz : (![0, 0] : Fin 2 → Nat) = fun _ => 0 := funext fun a => by fin_cases a <;> rfl

/-- The codes the body stores at column block `j`, from the blocks it reads and the reciprocal scale. -/
def codesAt (j : BitVec 32) (g : Vec F S256x1024 .bf16) (cc ss : Vec F S256x128 .f32) (s : Elt F .f32) : FVec F S256x1024 .fp8e5m2 :=
  k0_pay14 j (k0_pay1 g) (k0_pay2 cc) (k0_pay3 ss) (k0_pay4 g cc ss) (k0_pay5 g cc ss) (k0_pay6 g cc ss) (k0_pay7 g cc ss)
    (k0_pay8 g cc ss) (k0_pay9 g cc ss) (k0_pay10 g cc ss) (k0_pay11 g) (k0_pay12 g) s

/-- The running absolute maxima the body stores at column block `j`, from the blocks it reads and the maxima before. -/
def maxAt (j : BitVec 32) (g : Vec F S256x1024 .bf16) (cc ss : Vec F S256x128 .f32) (a : Vec F S8x128 .f32) : FVec F S8x128 .f32 :=
  k0_pay16 j (k0_pay1 g) (k0_pay2 cc) (k0_pay3 ss) (k0_pay4 g cc ss) (k0_pay5 g cc ss) (k0_pay6 g cc ss) (k0_pay7 g cc ss)
    (k0_pay8 g cc ss) (k0_pay9 g cc ss) (k0_pay10 g cc ss) (k0_pay11 g) (k0_pay12 g) a

/-- The one index of a one-element vector. -/
def one : S1.Idx := fun a => ⟨0, by fin_cases a; decide⟩

/-- A one-element read of a one-element vector is its element. -/
theorem ld_one (x0 : Vec F S1 .f32) (y : S1.Idx) : View.ld x0 (Rect.unit ![0] ![1] inb_S1_S1_0) y = x0 one :=
  congrArg x0 (funext fun a => match a with | ⟨0, _⟩ => Subsingleton.elim (α := Fin 1) _ _)

/-- At the grid's first point the body leaves the codes of the blocks it reads. -/
theorem out_A4 (c : Dev nD) (i : grid0.Coords) (arg2 : Memref sig .tc .smem S1 .f32) (harg2 : arg2.IsWhole) (arg3 : Memref sig .tc .vmem S256x1024 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .fp8e5m2) (harg6 : arg6.IsWhole) (arg7 : Memref sig .tc .vmem S8x128 .f32) (harg7 : arg7.IsWhole) (hc0 : cond0_0 i)
    (x0 : Vec F S1 .f32) (x1 : Vec F S256x1024 .bf16) (x2 : Vec F S256x128 .f32) (x3 : Vec F S256x128 .f32) :
    out0_A_4 c i arg2 harg2 arg3 harg3 arg4 harg4 arg5 harg5 arg6 harg6 arg7 harg7 hc0 x0 x1 x2 x3 = codesAt (BitVec.ofNat 32 (i 1).val) x1 x2 x3 (x0 one) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread, harg5.read_unread, harg7.read_unread, View.ld_unit_zero (S := S256x1024) hz, View.ld_unit_zero (S := S256x128) hz, View.ld_unit_zero (S := S8x128) hz]
  exact congrArg (codesAt (BitVec.ofNat 32 (i 1).val) x1 x2 x3) (ld_one x0 _)

/-- At the grid's first point the body leaves the maxima of the blocks it reads. -/
theorem out_A5 (c : Dev nD) (i : grid0.Coords) (arg2 : Memref sig .tc .smem S1 .f32) (harg2 : arg2.IsWhole) (arg3 : Memref sig .tc .vmem S256x1024 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .fp8e5m2) (harg6 : arg6.IsWhole) (arg7 : Memref sig .tc .vmem S8x128 .f32) (harg7 : arg7.IsWhole) (hc0 : cond0_0 i)
    (x0 : Vec F S1 .f32) (x1 : Vec F S256x1024 .bf16) (x2 : Vec F S256x128 .f32) (x3 : Vec F S256x128 .f32) :
    out0_A_5 c i arg2 harg2 arg3 harg3 arg4 harg4 arg5 harg5 arg6 harg6 arg7 harg7 hc0 x0 x1 x2 x3 = maxAt (BitVec.ofNat 32 (i 1).val) x1 x2 x3 k0_pay15 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg7.read_unread, View.ld_unit_zero (S := S256x1024) hz, View.ld_unit_zero (S := S256x128) hz, View.ld_unit_zero (S := S8x128) hz]
  rfl

/-- At every later point the body leaves the codes of the blocks it reads. -/
theorem out_B4 (c : Dev nD) (i : grid0.Coords) (arg2 : Memref sig .tc .smem S1 .f32) (harg2 : arg2.IsWhole) (arg3 : Memref sig .tc .vmem S256x1024 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .fp8e5m2) (harg6 : arg6.IsWhole) (arg7 : Memref sig .tc .vmem S8x128 .f32) (harg7 : arg7.IsWhole) (hc0 : ¬cond0_0 i)
    (x0 : Vec F S1 .f32) (x1 : Vec F S256x1024 .bf16) (x2 : Vec F S256x128 .f32) (x3 : Vec F S256x128 .f32) (xo5 : Vec F S8x128 .f32) :
    out0_B_4 c i arg2 harg2 arg3 harg3 arg4 harg4 arg5 harg5 arg6 harg6 arg7 harg7 hc0 x0 x1 x2 x3 xo5 = codesAt (BitVec.ofNat 32 (i 1).val) x1 x2 x3 (x0 one) := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S256x1024) hz, View.ld_unit_zero (S := S256x128) hz, View.ld_unit_zero (S := S8x128) hz]
  exact congrArg (codesAt (BitVec.ofNat 32 (i 1).val) x1 x2 x3) (ld_one x0 _)

/-- At every later point the body leaves the maxima of the blocks it reads. -/
theorem out_B5 (c : Dev nD) (i : grid0.Coords) (arg2 : Memref sig .tc .smem S1 .f32) (harg2 : arg2.IsWhole) (arg3 : Memref sig .tc .vmem S256x1024 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .fp8e5m2) (harg6 : arg6.IsWhole) (arg7 : Memref sig .tc .vmem S8x128 .f32) (harg7 : arg7.IsWhole) (hc0 : ¬cond0_0 i)
    (x0 : Vec F S1 .f32) (x1 : Vec F S256x1024 .bf16) (x2 : Vec F S256x128 .f32) (x3 : Vec F S256x128 .f32) (xo5 : Vec F S8x128 .f32) :
    out0_B_5 c i arg2 harg2 arg3 harg3 arg4 harg4 arg5 harg5 arg6 harg6 arg7 harg7 hc0 x0 x1 x2 x3 xo5 = maxAt (BitVec.ofNat 32 (i 1).val) x1 x2 x3 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S256x1024) hz, View.ld_unit_zero (S := S256x128) hz, View.ld_unit_zero (S := S8x128) hz]
  rfl

/-- What the codes' buffer holds after any point. -/
theorem outs_codes (c : Dev nD) (t : Fin cfg0.N) : (outsAt0 V c t.val t.isLt).1
    = codesAt (BitVec.ofNat 32 (grid0.coords t 1).val) (iblk0 V c 1 t) (iblk0 V c 2 t) (iblk0 V c 3 t) ((iblk0 V c 0 t : Vec F S1 .f32) one) := by
  by_cases h0 : t.val % 56 = 0
  · rw [outsAt0_A V c t h0]; dsimp only; rw [out_A4]
  · rw [outsAt0_B V c t h0]; dsimp only; rw [out_B4]

/-- What the maxima's buffer holds after the first point. -/
theorem outs_max_zero (c : Dev nD) (h : 0 < cfg0.N) : (outsAt0 V c 0 h).2
    = maxAt (BitVec.ofNat 32 (grid0.coords ⟨0, h⟩ 1).val) (iblk0 V c 1 ⟨0, h⟩) (iblk0 V c 2 ⟨0, h⟩) (iblk0 V c 3 ⟨0, h⟩) k0_pay15 := by
  rw [outsAt0_A V c ⟨0, h⟩ rfl]; dsimp only; rw [out_A5]

/-- What the maxima's buffer holds after a later point, over what it held after the point before. -/
theorem outs_max_succ (c : Dev nD) (n : ℕ) (h : n + 1 < cfg0.N) : (outsAt0 V c (n + 1) h).2
    = maxAt (BitVec.ofNat 32 (grid0.coords ⟨n + 1, h⟩ 1).val) (iblk0 V c 1 ⟨n + 1, h⟩) (iblk0 V c 2 ⟨n + 1, h⟩) (iblk0 V c 3 ⟨n + 1, h⟩)
        (outsAt0 V c n (Nat.lt_of_succ_lt h)).2 := by
  have hN : cfg0.N = 56 := N_0
  have hB : ¬(⟨n + 1, h⟩ : Fin cfg0.N).val % 56 = 0 := by dsimp only; omega
  rw [outsAt0_B V c ⟨n + 1, h⟩ hB]; dsimp only; rw [out_B5]; rfl

end Cert.KernelIdeal.Hand

end
-- ==== Proof.KernelRot.lean ====
/- The arithmetic of region 0's body over the ideal elements: the rotated block at an index, and the block's maxima. -/
module

public import proofs.«01_k».proof.Proof.KernelRegion0
public import Idealize.ShloMosaic.Lib.Pipeline.Value
public import Idealize.ShloMosaic.Lib.KernelVsHost
public import Idealize.ShloMosaic.Lib.Pointwise.Index
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.SL.Sem

/-- The block the body quantises at column block `j`: the rotated block, or the block itself from column block 7 on. -/
def rot (j : BitVec 32) (g : Vec Ideal S256x1024 .bf16) (cc ss : Vec Ideal S256x128 .f32) : FVec Ideal S256x1024 .f32 :=
  k0_pay13 j (k0_pay1 g) (k0_pay2 cc) (k0_pay3 ss) (k0_pay4 g cc ss) (k0_pay5 g cc ss) (k0_pay6 g cc ss) (k0_pay7 g cc ss)
    (k0_pay8 g cc ss) (k0_pay9 g cc ss) (k0_pay10 g cc ss) (k0_pay11 g) (k0_pay12 g)

/-- A 128-lane piece of the block, from lane `o` on, rotated: the piece times `C` plus the piece turned by 64 lanes times `S`. -/
def piece (o : Nat) (h : S256x1024.Slices ![0, o] S256x128) (G : FVec Ideal S256x1024 .f32) (C S : FVec Ideal S256x128 .f32) : FVec Ideal S256x128 .f32 :=
  addf (mulf (extractStridedSlice S256x128 ![0, o] G h) C)
    (mulf (dynamicRotate 1 64#32 none (extractStridedSlice S256x128 ![0, o] G h) rotates_S256x128_d1) S)

/-- The piece at an index: the block's element times `C`'s, plus the element 64 lanes away within the piece times `S`'s. -/
theorem piece_apply (o : Nat) (ho : o + 128 ≤ 1024) (h : S256x1024.Slices ![0, o] S256x128) (G : FVec Ideal S256x1024 .f32) (C S : FVec Ideal S256x128 .f32)
    (r : Fin 256) (l : Fin 128) : piece o h G C S (ix2 r l)
      = ((G (ix2 r ⟨o + l.val, by omega⟩) * C (ix2 r l) + G (ix2 r ⟨o + (l.val + 64) % 128, by omega⟩) * S (ix2 r l) : EReal)) := by
  have h1 : extractStridedSlice S256x128 ![0, o] G h (ix2 r l) = G (ix2 r ⟨o + l.val, by omega⟩) :=
    extractStridedSlice_apply _ _ _ _ _ (fun a => by fin_cases a <;> simp [ix2])
  have h2 : dynamicRotate 1 64#32 none (extractStridedSlice S256x128 ![0, o] G h) rotates_S256x128_d1 (ix2 r l)
      = G (ix2 r ⟨o + (l.val + 64) % 128, by omega⟩) := by
    rw [dynamicRotate_apply 1 64#32 _ rotates_S256x128_d1 (ix2 r l) (ix2 r ⟨(l.val + 64) % 128, by omega⟩)
      (fun b => by
        fin_cases b
        · rfl
        · show (l.val + 64) % 128 = (l.val + 128 - 64 % 128) % 128
          omega)]
    exact extractStridedSlice_apply _ _ _ _ _ (fun a => by fin_cases a <;> simp [ix2])
  show FloatOps.addf (FloatOps.mulf (extractStridedSlice S256x128 ![0, o] G h (ix2 r l)) (C (ix2 r l)))
    (FloatOps.mulf (dynamicRotate 1 64#32 none (extractStridedSlice S256x128 ![0, o] G h) rotates_S256x128_d1 (ix2 r l)) (S (ix2 r l))) = _
  rw [h1, h2]; rfl

theorem slices_at (n : Fin 8) : S256x1024.Slices ![0, 128 * n.val] S256x128 := by
  refine ⟨rfl, fun a => ?_⟩
  have := n.isLt
  match a with
  | ⟨0, _⟩ => show 0 + 256 ≤ 256; omega
  | ⟨1, _⟩ => show 128 * n.val + 128 ≤ 1024; omega

/-- Before column block 7 the body quantises the concatenation of the eight rotated pieces. -/
theorem rot_eq_concat (j : BitVec 32) (hj : j.slt 7#32 = true) (g : Vec Ideal S256x1024 .bf16) (cc ss : Vec Ideal S256x128 .f32) :
    rot j g cc ss = concatenate S256x1024 1 (List.ofFn fun n : Fin 8 => (⟨S256x128, piece (128 * n.val) (slices_at n) (k0_pay1 g) (k0_pay2 cc) (k0_pay3 ss)⟩ : (s : Shape) × (s.Idx → EReal)))
      concatenates_S256x128_S256x128_S256x128_S256x128_S256x128_S256x128_S256x128_S256x128_S256x1024_d1 := by
  have hc : Scalar.cmpi .slt j 7#32 = 1#1 := by simp [Scalar.cmpi, IntOp.cmpi, hj]
  unfold rot k0_pay13
  dsimp only
  rw [hc]
  rfl

/-- From column block 7 on the body quantises the block as it is. -/
theorem rot_ge (j : BitVec 32) (hj : j.slt 7#32 = false) (g : Vec Ideal S256x1024 .bf16) (cc ss : Vec Ideal S256x128 .f32) (y : S256x1024.Idx) :
    rot j g cc ss y = (g y : EReal) := by
  have hc : Scalar.cmpi .slt j 7#32 = 0#1 := by simp [Scalar.cmpi, IntOp.cmpi, hj]
  unfold rot k0_pay13
  rw [hc]
  show (shapeCast S256x1024 g shapeCasts_S256x1024_S256x1024 y : EReal) = _
  rw [shapeCast_self]

/-- Before column block 7 the element at row `r`, lane `q` is the block's times the cosine's, plus the block's 64 lanes away times the signed sine's. -/
theorem rot_lt (j : BitVec 32) (hj : j.slt 7#32 = true) (g : Vec Ideal S256x1024 .bf16) (cc ss : Vec Ideal S256x128 .f32) (r : Fin 256) (q : Fin 1024) :
    rot j g cc ss (ix2 r q) = ((g (ix2 r q) * cc (ix2 r ⟨q.val % 128, by omega⟩)
      + g (ix2 r ⟨q.val / 128 * 128 + (q.val % 128 + 64) % 128, by omega⟩) * ss (ix2 r ⟨q.val % 128, by omega⟩) : EReal)) := by
  rw [rot_eq_concat j hj]
  refine (concatenate_ofFn_apply (t := S256x1024) (s₁ := S256x128) (1 : Fin 2) (fun n : Fin 8 => piece (128 * n.val) (slices_at n) (k0_pay1 g) (k0_pay2 cc) (k0_pay3 ss)) _ rfl 128 rfl
    (ix2 r q) ⟨q.val / 128, by omega⟩ rfl (ix2 r ⟨q.val % 128, by omega⟩) rfl (fun b hb => by fin_cases b; rfl; exact absurd rfl hb)).trans ?_
  rw [piece_apply _ (by dsimp only; omega)]
  have e1 : (k0_pay1 g : FVec Ideal S256x1024 .f32) = (g : S256x1024.Idx → EReal) := by
    unfold k0_pay1; dsimp only; rw [shapeCast_self]; rfl
  have e2 : (k0_pay2 cc : FVec Ideal S256x128 .f32) = cc := shapeCast_self _ _
  have e3 : (k0_pay3 ss : FVec Ideal S256x128 .f32) = ss := shapeCast_self _ _
  rw [e1, e2, e3]
  have i1 : (⟨128 * (q.val / 128) + q.val % 128, by omega⟩ : Fin 1024) = q := Fin.ext (by dsimp only; omega)
  have i2 : (⟨128 * (q.val / 128) + (q.val % 128 + 64) % 128, by omega⟩ : Fin 1024) = ⟨q.val / 128 * 128 + (q.val % 128 + 64) % 128, by omega⟩ := Fin.ext (by dsimp only; omega)
  simp only [i1, i2]

/-- The largest finite code and its negative, as the body's constants. -/
def top : EReal := FloatOps.ofBits (F := Ideal) .f32 0x47600000#32
def bot : EReal := FloatOps.ofBits (F := Ideal) .f32 0xC7600000#32

/-- The codes at an index: the scaled element, clipped. -/
theorem codesAt_apply (j : BitVec 32) (g : Vec Ideal S256x1024 .bf16) (cc ss : Vec Ideal S256x128 .f32) (s : EReal) (y : S256x1024.Idx) :
    (codesAt (F := Ideal) j g cc ss s y : EReal) = min top (max bot ((rot j g cc ss y : EReal) * s)) := rfl

/-- The fold of maxima from below is bounded exactly when every element is. -/
theorem fold_le {ι : Type} [DecidableEq ι] (s : Finset ι) (f : ι → EReal) (i b : EReal) : s.fold max i f ≤ b ↔ i ≤ b ∧ ∀ x ∈ s, f x ≤ b := by
  induction s using Finset.induction_on with
  | empty => simp
  | insert a s ha ih => rw [Finset.fold_insert ha, max_le_iff, ih]; simp only [Finset.mem_insert, forall_eq_or_imp]; tauto

theorem neg_inf : (FloatOps.ofBits (F := Ideal) .f32 0xFF800000#32 : EReal) = ⊥ := by
  simp [Ideal.ofBits_def, Ideal.ofBits, Ideal.ieee]

/-- The block's absolute values reduced over its groups of eight rows. -/
def rowMax (R : FVec Ideal S256x1024 .f32) : FVec Ideal S8x1024 .f32 :=
  multiReduction .maximumf [0] S8x1024 (shapeCast S32x8x1024 (absf R) shapeCasts_S256x1024_S32x8x1024) 0xFF800000#32 reduces_S32x8x1024_S8x1024 (.inl rfl) rfl

/-- The reduction at row `x` and lane `c` is bounded exactly when the absolute values of rows `x`, `8 + x`, ... at that lane are. -/
theorem rowMax_le (R : FVec Ideal S256x1024 .f32) (x : Fin 8) (c : Fin 1024) (b : EReal) :
    (rowMax R (ix2 x c) : EReal) ≤ b ↔ ∀ r : Fin 32, (FloatOps.absf (F := Ideal) (φ := .f32) (R (ix2 ⟨8 * r.val + x.val, by omega⟩ c)) : EReal) ≤ b := by
  have hm : (rowMax R (ix2 x c) : EReal) ≤ b ↔ _ := (iff_of_eq (congrArg (· ≤ b)
    (Ideal.multiReduction_maximumf_single (shapeCast S32x8x1024 (absf R) shapeCasts_S256x1024_S32x8x1024) 0xFF800000#32 reduces_S32x8x1024_S8x1024 (.inl rfl) rfl (ix2 x c)))).trans
    (fold_le _ _ _ b)
  refine hm.trans ?_
  have key : ∀ r : Fin 32, (shapeCast S32x8x1024 (absf R) shapeCasts_S256x1024_S32x8x1024 (reduces_S32x8x1024_S8x1024.lift (ix2 x c) r) : EReal)
      = FloatOps.absf (F := Ideal) (φ := .f32) (R (ix2 ⟨8 * r.val + x.val, by omega⟩ c)) := fun r =>
    shapeCast_apply (absf R) shapeCasts_S256x1024_S32x8x1024 (reduces_S32x8x1024_S8x1024.lift (ix2 x c) r) (ix2 ⟨8 * r.val + x.val, by omega⟩ c) (by
      rw [Shape.rowMajor_val_two, Shape.rowMajor_val_three]
      show (8 * r.val + x.val) * 1024 + c.val = (r.val * 8 + x.val) * 1024 + c.val
      omega)
  constructor
  · intro h r
    rw [← key r]
    exact h.2 r (Finset.mem_univ _)
  · intro h
    exact ⟨neg_inf ▸ bot_le, fun r _ => (le_of_eq (key r)).trans (h r)⟩

theorem slice_at (o : Nat) (ho : o + 128 ≤ 1024) (h : S8x1024.Slices ![0, o] S8x128) (M : FVec Ideal S8x1024 .f32) (x : Fin 8) (l : Fin 128) :
    extractStridedSlice S8x128 ![0, o] M h (ix2 x l) = M (ix2 x ⟨o + l.val, by omega⟩) :=
  extractStridedSlice_apply _ _ _ _ _ (fun a => by fin_cases a <;> simp [ix2])

/-- Every maximum the body stores is bounded by `b` exactly when the one before is and the block's absolute values at that lane are. -/
theorem maxAt_le (j : BitVec 32) (g : Vec Ideal S256x1024 .bf16) (cc ss : Vec Ideal S256x128 .f32) (a : Vec Ideal S8x128 .f32) (x : Fin 8) (l : Fin 128) (b : EReal) :
    (maxAt (F := Ideal) j g cc ss a (ix2 x l) : EReal) ≤ b
      ↔ (a (ix2 x l) : EReal) ≤ b ∧ ∀ (k : Fin 8) (r : Fin 32), (FloatOps.absf (F := Ideal) (φ := .f32) (rot j g cc ss (ix2 ⟨8 * r.val + x.val, by omega⟩ ⟨128 * k.val + l.val, by omega⟩)) : EReal) ≤ b := by
  have e : (maxAt (F := Ideal) j g cc ss a (ix2 x l) : EReal) = max (shapeCast S8x128 a shapeCasts_S8x128_S8x128 (ix2 x l))
      (max (max (max (max (max (max (max (extractStridedSlice S8x128 ![0, 0] (rowMax (rot j g cc ss)) slices_S8x1024_o0_0_S8x128 (ix2 x l))
        (extractStridedSlice S8x128 ![0, 128] (rowMax (rot j g cc ss)) slices_S8x1024_o0_128_S8x128 (ix2 x l)))
        (extractStridedSlice S8x128 ![0, 256] (rowMax (rot j g cc ss)) slices_S8x1024_o0_256_S8x128 (ix2 x l)))
        (extractStridedSlice S8x128 ![0, 384] (rowMax (rot j g cc ss)) slices_S8x1024_o0_384_S8x128 (ix2 x l)))
        (extractStridedSlice S8x128 ![0, 512] (rowMax (rot j g cc ss)) slices_S8x1024_o0_512_S8x128 (ix2 x l)))
        (extractStridedSlice S8x128 ![0, 640] (rowMax (rot j g cc ss)) slices_S8x1024_o0_640_S8x128 (ix2 x l)))
        (extractStridedSlice S8x128 ![0, 768] (rowMax (rot j g cc ss)) slices_S8x1024_o0_768_S8x128 (ix2 x l)))
        (extractStridedSlice S8x128 ![0, 896] (rowMax (rot j g cc ss)) slices_S8x1024_o0_896_S8x128 (ix2 x l))) := rfl
  rw [e, shapeCast_self, slice_at 0 (by omega), slice_at 128 (by omega), slice_at 256 (by omega), slice_at 384 (by omega), slice_at 512 (by omega),
    slice_at 640 (by omega), slice_at 768 (by omega), slice_at 896 (by omega)]
  simp only [max_le_iff, rowMax_le]
  constructor
  · rintro ⟨h, ⟨⟨⟨⟨⟨⟨h0, h1⟩, h2⟩, h3⟩, h4⟩, h5⟩, h6⟩, h7⟩
    refine ⟨h, fun k r => ?_⟩
    match k with
    | 0 => exact h0 r
    | 1 => exact h1 r
    | 2 => exact h2 r
    | 3 => exact h3 r
    | 4 => exact h4 r
    | 5 => exact h5 r
    | 6 => exact h6 r
    | 7 => exact h7 r
  · rintro ⟨h, hk⟩
    exact ⟨h, ⟨⟨⟨⟨⟨⟨hk 0, hk 1⟩, hk 2⟩, hk 3⟩, hk 4⟩, hk 5⟩, hk 6⟩, hk 7⟩

end Cert.KernelIdeal.Hand

end
-- ==== Proof.KernelCodes.lean ====
/- Region 0's two output arrays over the ideal elements, as whole-array functions of the arrays the region reads. -/
module

public import proofs.«01_k».proof.Proof.KernelRot

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The rotated array at row `R`, column `Q`: in the first 7168 columns the element times the cosine's plus the element 64 lanes
    away within its head times the signed sine's; the element itself in the last 1024. -/
def whole (G : S1792x8192.Idx → EReal) (C S : S1792x128.Idx → EReal) (R : Fin 1792) (Q : Fin 8192) : EReal :=
  if Q.val < 7168 then
    G (ix2 R Q) * C (ix2 R ⟨Q.val % 128, by omega⟩)
      + G (ix2 R ⟨Q.val / 128 * 128 + (Q.val % 128 + 64) % 128, by omega⟩) * S (ix2 R ⟨Q.val % 128, by omega⟩)
  else G (ix2 R Q)

/-- The codes' array: every rotated element scaled and clipped. -/
def wholeCodes (G : S1792x8192.Idx → EReal) (C S : S1792x128.Idx → EReal) (s : EReal) : S1792x8192.Idx → EReal :=
  fun i => min top (max bot (whole G C S (i 0) (i 1) * s))

variable (V : (c : Dev nD) → (b : Ref sig .tc) → Buf (Elt Ideal) ((c : Thread nD τ).loc b)) (c : Dev nD)

/-- The points' column blocks and the windows' block positions: point `t` is row block `t / 8`, column block `t % 8`. -/
theorem idx_facts : ∀ t : Fin cfg0.N, (grid0.coords t 1).val = t.val % 8
    ∧ win0_1.index t 0 = t.val / 8 ∧ win0_1.index t 1 = t.val % 8 ∧ win0_2.index t 0 = t.val / 8 ∧ win0_2.index t 1 = 0
    ∧ win0_3.index t 0 = t.val / 8 ∧ win0_3.index t 1 = 0 ∧ win0_4.index t 0 = t.val / 8 ∧ win0_4.index t 1 = t.val % 8
    ∧ win0_0.index t 0 = 0 ∧ win0_5.index t 0 = 0 ∧ win0_5.index t 1 = 0 :=
  (by decide +kernel : ∀ t : Fin grid0.N, _)

theorem lt_N (t : Fin cfg0.N) : t.val < 56 := by have := t.isLt; have h : cfg0.N = 56 := N_0; omega

/-- The row of the array under row `r` of point `t`'s block. -/
def rowOf (t : Fin cfg0.N) (r : Fin 256) : Fin 1792 := ⟨t.val / 8 * 256 + r.val, by have := lt_N t; omega⟩
/-- The column of the array under lane `q` of point `t`'s block. -/
def colOf (t : Fin cfg0.N) (q : Fin 1024) : Fin 8192 := ⟨t.val % 8 * 1024 + q.val, by omega⟩

theorem read_0 (t : Fin cfg0.N) : (iblk0 V c 0 t : Vec Ideal S1 .f32) one = (V c main_v57 : S1.Idx → EReal) one := by
  unfold iblk0
  rw [View.read_apply]
  show V c main_v57 _ = _
  congr 1
  funext a
  match a with
  | ⟨0, _⟩ => exact Subsingleton.elim (α := Fin 1) _ _

theorem read_1 (t : Fin cfg0.N) (r : Fin 256) (q : Fin 1024) :
    (iblk0 V c 1 t : Vec Ideal S256x1024 .bf16) (ix2 r q) = (V c main_v56 : S1792x8192.Idx → EReal) (ix2 (rowOf t r) (colOf t q)) := by
  have hi := idx_facts t
  unfold iblk0
  rw [View.read_apply]
  show V c main_v56 _ = _
  congr 1
  funext a
  apply Fin.ext
  match a with
  | ⟨0, _⟩ => show win0_1.index t 0 * 256 + 1 * r.val = t.val / 8 * 256 + r.val; rw [hi.2.1]; omega
  | ⟨1, _⟩ => show win0_1.index t 1 * 1024 + 1 * q.val = t.val % 8 * 1024 + q.val; rw [hi.2.2.1]; omega

theorem read_2 (t : Fin cfg0.N) (r : Fin 256) (l : Fin 128) :
    (iblk0 V c 2 t : Vec Ideal S256x128 .f32) (ix2 r l) = (V c main_v19 : S1792x128.Idx → EReal) (ix2 (rowOf t r) l) := by
  have hi := idx_facts t
  unfold iblk0
  rw [View.read_apply]
  show V c main_v19 _ = _
  congr 1
  funext a
  apply Fin.ext
  match a with
  | ⟨0, _⟩ => show win0_2.index t 0 * 256 + 1 * r.val = t.val / 8 * 256 + r.val; rw [hi.2.2.2.1]; omega
  | ⟨1, _⟩ => show win0_2.index t 1 * 128 + 1 * l.val = l.val; rw [hi.2.2.2.2.1]; omega

theorem read_3 (t : Fin cfg0.N) (r : Fin 256) (l : Fin 128) :
    (iblk0 V c 3 t : Vec Ideal S256x128 .f32) (ix2 r l) = (V c main_v21 : S1792x128.Idx → EReal) (ix2 (rowOf t r) l) := by
  have hi := idx_facts t
  unfold iblk0
  rw [View.read_apply]
  show V c main_v21 _ = _
  congr 1
  funext a
  apply Fin.ext
  match a with
  | ⟨0, _⟩ => show win0_3.index t 0 * 256 + 1 * r.val = t.val / 8 * 256 + r.val; rw [hi.2.2.2.2.2.1]; omega
  | ⟨1, _⟩ => show win0_3.index t 1 * 128 + 1 * l.val = l.val; rw [hi.2.2.2.2.2.2.1]; omega

theorem slt_iff (n : ℕ) (h : n < 8) : (BitVec.ofNat 32 n).slt 7#32 = decide (n < 7) := by
  interval_cases n <;> decide

/-- The block the body quantises at point `t` is the rotated array's block there. -/
theorem rot_block (t : Fin cfg0.N) (r : Fin 256) (q : Fin 1024) :
    (rot (BitVec.ofNat 32 (grid0.coords t 1).val) (iblk0 V c 1 t) (iblk0 V c 2 t) (iblk0 V c 3 t) (ix2 r q) : EReal)
      = whole (V c main_v56) (V c main_v19) (V c main_v21) (rowOf t r) (colOf t q) := by
  have hi := (idx_facts t).1
  have hs := slt_iff (t.val % 8) (by omega)
  rw [hi]
  unfold whole
  by_cases h : t.val % 8 < 7
  · rw [if_pos (by show t.val % 8 * 1024 + q.val < 7168; omega)]
    rw [rot_lt _ (by rw [hs]; exact decide_eq_true h), read_1, read_1, read_2, read_3]
    have e1 : (⟨(colOf t q).val % 128, Nat.mod_lt _ (by omega)⟩ : Fin 128) = ⟨q.val % 128, Nat.mod_lt _ (by omega)⟩ :=
      Fin.ext (by show (t.val % 8 * 1024 + q.val) % 128 = q.val % 128; omega)
    have e2 : (⟨(colOf t q).val / 128 * 128 + ((colOf t q).val % 128 + 64) % 128, by omega⟩ : Fin 8192)
        = colOf t ⟨q.val / 128 * 128 + (q.val % 128 + 64) % 128, by omega⟩ :=
      Fin.ext (by
        show (t.val % 8 * 1024 + q.val) / 128 * 128 + ((t.val % 8 * 1024 + q.val) % 128 + 64) % 128
          = t.val % 8 * 1024 + (q.val / 128 * 128 + (q.val % 128 + 64) % 128)
        omega)
    rw [e1, e2]
  · rw [if_neg (by show ¬ t.val % 8 * 1024 + q.val < 7168; omega)]
    rw [rot_ge _ (by rw [hs]; exact decide_eq_false h), read_1]

/-- The codes' array ends at the scaled and clipped rotated array. -/
theorem final0_4 : (dat0 V c).arrAt 4 cfg0.N
    = (wholeCodes (V c main_v56) (V c main_v19) (V c main_v21) ((V c main_v57 : S1.Idx → EReal) one) : S1792x8192.Idx → EReal) := by
  refine (dat0 V c).arrAt_eq_of_cover 4 _ (fun t _ => ?_) fun i => ?_
  · have hi := idx_facts t
    show (cfg0.win 4).cut (grid0.coords t) ((dat0 V c).after 4 t) = _
    rw [after0_4, outs_codes]
    funext y
    rw [View.read_apply]
    obtain ⟨r, q, rfl⟩ : ∃ (r : Fin 256) (q : Fin 1024), y = ix2 r q := ⟨y 0, y 1, (ix2_eta (n0 := 256) (n1 := 1024) y).symm⟩
    have e : ((cfg0.win 4).blk t).view.emb (ix2 r q) = (ix2 (rowOf t r) (colOf t q) : S1792x8192.Idx) := by
      funext a
      apply Fin.ext
      match a with
      | ⟨0, _⟩ => show win0_4.index t 0 * 256 + 1 * r.val = t.val / 8 * 256 + r.val; rw [hi.2.2.2.2.2.2.2.1]; omega
      | ⟨1, _⟩ => show win0_4.index t 1 * 1024 + 1 * q.val = t.val % 8 * 1024 + q.val; rw [hi.2.2.2.2.2.2.2.2.1]; omega
    show (codesAt (F := Ideal) _ _ _ _ _ (ix2 r q) : EReal) = wholeCodes _ _ _ _ _
    rw [e, codesAt_apply, rot_block, read_0]
    rfl
  · have hb : (8 * ((i 0).val / 256) + (i 1).val / 1024) < cfg0.N := by
      have h0 : (i 0).val < 1792 := (i 0).isLt
      have h1 : (i 1).val < 8192 := (i 1).isLt
      have h : cfg0.N = 56 := N_0
      omega
    have hi := idx_facts ⟨_, hb⟩
    refine ⟨⟨_, hb⟩, flush0_4 _, ?_⟩
    show i ∈ ((View.whole main_v58_0).slice (win0_4.rect ⟨8 * ((i 0).val / 256) + (i 1).val / 1024, hb⟩)).set
    rw [View.set_slice_whole, Rect.mem_set_unit]
    have h1 : (i 1).val < 8192 := (i 1).isLt
    intro a
    match a with
    | ⟨0, _⟩ =>
      show win0_4.index ⟨_, hb⟩ 0 * 256 ≤ (i 0).val ∧ (i 0).val < win0_4.index ⟨_, hb⟩ 0 * 256 + 256
      rw [hi.2.2.2.2.2.2.2.1]; dsimp only; omega
    | ⟨1, _⟩ =>
      show win0_4.index ⟨_, hb⟩ 1 * 1024 ≤ (i 1).val ∧ (i 1).val < win0_4.index ⟨_, hb⟩ 1 * 1024 + 1024
      rw [hi.2.2.2.2.2.2.2.2.1]; dsimp only; omega

/-- The absolute value of the rotated array at row `R`, column `Q`. -/
def wholeAbs (G : S1792x8192.Idx → EReal) (C S : S1792x128.Idx → EReal) (R : Fin 1792) (Q : Fin 8192) : EReal :=
  FloatOps.absf (F := Ideal) (φ := .f32) (whole G C S R Q)

theorem pay15_apply (y : S8x128.Idx) : (k0_pay15 (F := Ideal) y : EReal) = 0 := by
  show (FloatOps.ofBits (F := Ideal) .f32 0x00000000#32 : EReal) = 0
  simp [Ideal.ofBits_def, Ideal.ofBits, Ideal.ieee]

/-- After point `n`, a running maximum is bounded by `b` exactly when zero is and the absolute values at its residues are, in every block so far. -/
theorem outs_max_le (n : ℕ) (h : n < cfg0.N) (x : Fin 8) (l : Fin 128) (b : EReal) :
    ((outsAt0 V c n h).2 (ix2 x l) : EReal) ≤ b ↔ (0 : EReal) ≤ b ∧ ∀ (t : Fin cfg0.N), t.val ≤ n → ∀ (k : Fin 8) (r : Fin 32),
      wholeAbs (V c main_v56) (V c main_v19) (V c main_v21) (rowOf t ⟨8 * r.val + x.val, by omega⟩) (colOf t ⟨128 * k.val + l.val, by omega⟩) ≤ b := by
  induction n with
  | zero =>
    rw [outs_max_zero, maxAt_le, pay15_apply]
    refine and_congr_right fun _ => ⟨fun hk t ht k r => ?_, fun hk k r => ?_⟩
    · obtain rfl : t = ⟨0, h⟩ := Fin.ext (Nat.le_zero.mp ht)
      have := hk k r
      rw [rot_block] at this
      exact this
    · rw [rot_block]
      exact hk ⟨0, h⟩ le_rfl k r
  | succ n ih =>
    rw [outs_max_succ, maxAt_le, ih (Nat.lt_of_succ_lt h), and_assoc]
    refine and_congr_right fun _ => ⟨fun ⟨hp, hk⟩ t ht k r => ?_, fun hk => ⟨fun t ht => hk t (Nat.le_succ_of_le ht), fun k r => ?_⟩⟩
    · rcases Nat.lt_or_ge t.val (n + 1) with hlt | hge
      · exact hp t (Nat.le_of_lt_succ hlt) k r
      · obtain rfl : t = ⟨n + 1, h⟩ := Fin.ext (le_antisymm ht hge)
        have := hk k r
        rw [rot_block] at this
        exact this
    · rw [rot_block]
      exact hk ⟨n + 1, h⟩ le_rfl k r

/-- The region's last point. -/
abbrev last0 : Fin cfg0.N := ⟨55, by decide⟩

/-- The maxima's array ends at what its buffer holds after the last point. -/
theorem final0_5 : (dat0 V c).arrAt 5 cfg0.N = ((outsAt0 V c 55 (by decide)).2 : S8x128.Idx → EReal) := by
  refine (dat0 V c).arrAt_eq_of_cover 5 _ (fun t hf => ?_) fun i => ⟨last0, (flush0_5 last0).mpr rfl, ?_⟩
  · have ht : t.val % 56 = 55 := (flush0_5 t).mp hf
    have hlt := lt_N t
    obtain rfl : t = last0 := Fin.ext (by show t.val = 55; omega)
    have hi := idx_facts last0
    show (cfg0.win 5).cut (grid0.coords last0) ((dat0 V c).after 5 last0) = _
    rw [after0_5]
    funext y
    rw [View.read_apply]
    obtain ⟨r, q, rfl⟩ : ∃ (r : Fin 8) (q : Fin 128), y = ix2 r q := ⟨y 0, y 1, (ix2_eta (n0 := 8) (n1 := 128) y).symm⟩
    have e : ((cfg0.win 5).blk last0).view.emb (ix2 r q) = (ix2 r q : S8x128.Idx) := by
      funext a
      apply Fin.ext
      match a with
      | ⟨0, _⟩ => show win0_5.index last0 0 * 8 + 1 * r.val = r.val; rw [hi.2.2.2.2.2.2.2.2.2.2.1]; omega
      | ⟨1, _⟩ => show win0_5.index last0 1 * 128 + 1 * q.val = q.val; rw [hi.2.2.2.2.2.2.2.2.2.2.2]; omega
    rw [e]
    rfl
  · have hi := idx_facts last0
    show i ∈ ((View.whole main_v58_1).slice (win0_5.rect last0)).set
    rw [View.set_slice_whole, Rect.mem_set_unit]
    intro a
    match a with
    | ⟨0, _⟩ =>
      show win0_5.index last0 0 * 8 ≤ (i 0).val ∧ (i 0).val < win0_5.index last0 0 * 8 + 8
      rw [hi.2.2.2.2.2.2.2.2.2.2.1]; have : (i 0).val < 8 := (i 0).isLt; omega
    | ⟨1, _⟩ =>
      show win0_5.index last0 1 * 128 ≤ (i 1).val ∧ (i 1).val < win0_5.index last0 1 * 128 + 128
      rw [hi.2.2.2.2.2.2.2.2.2.2.2]; have : (i 1).val < 128 := (i 1).isLt; omega

/-- All the maxima are bounded by `b` exactly when zero is and every absolute value of the rotated array is. -/
theorem final0_5_le (A : S8x128.Idx → EReal) (hA : (dat0 V c).arrAt 5 cfg0.N = A) (b : EReal) : (∀ y : S8x128.Idx, A y ≤ b)
    ↔ (0 : EReal) ≤ b ∧ ∀ R Q, wholeAbs (V c main_v56) (V c main_v19) (V c main_v21) R Q ≤ b := by
  obtain rfl : A = (outsAt0 V c 55 (by decide)).2 := hA.symm.trans (final0_5 V c)
  constructor
  · intro h
    have h' := fun x l => (outs_max_le V c 55 (by decide) x l b).mp (h (ix2 x l))
    refine ⟨(h' 0 0).1, fun R Q => ?_⟩
    have hb : 8 * (R.val / 256) + Q.val / 1024 < cfg0.N := by
      have h : cfg0.N = 56 := N_0
      omega
    have := (h' ⟨R.val % 8, by omega⟩ ⟨Q.val % 128, by omega⟩).2 ⟨_, hb⟩ (by dsimp only; omega)
      ⟨Q.val % 1024 / 128, by omega⟩ ⟨R.val % 256 / 8, by omega⟩
    have e1 : rowOf ⟨_, hb⟩ ⟨8 * (R.val % 256 / 8) + R.val % 8, by omega⟩ = R := Fin.ext (by
      show (8 * (R.val / 256) + Q.val / 1024) / 8 * 256 + (8 * (R.val % 256 / 8) + R.val % 8) = R.val
      omega)
    have e2 : colOf ⟨_, hb⟩ ⟨128 * (Q.val % 1024 / 128) + Q.val % 128, by omega⟩ = Q := Fin.ext (by
      show (8 * (R.val / 256) + Q.val / 1024) % 8 * 1024 + (128 * (Q.val % 1024 / 128) + Q.val % 128) = Q.val
      omega)
    rw [e1, e2] at this
    exact this
  · rintro ⟨h0, h⟩ y
    have hy : y = ix2 (y 0) (y 1) := (ix2_eta (n0 := 8) (n1 := 128) y).symm
    rw [hy]
    exact (outs_max_le V c 55 (by decide) (y 0) (y 1) b).mpr ⟨h0, fun t _ k r => h _ _⟩

end Cert.KernelIdeal.Hand

end
-- ==== Proof.Target.lean ====
/- The concatenated gradient, with the rotation undone, at a row and a column: what both programs compute before quantising. -/
module

public import Idealize.ShloMosaic.PureOps.Ideal
public import Idealize.ShloMosaic.PureOps.Ideal.Laws
public import Idealize.ShloMosaic.Lib.Pointwise.Index

@[expose] public section

noncomputable section

namespace Cert.Hand

open Idealize.ShloMosaic

/-- The rotation undone within one head `X`, at feature `d`, from the cosines and sines of its 64 angles. -/
def rope (X : Fin 128 → EReal) (c s : Fin 64 → EReal) (d : Fin 128) : EReal :=
  X d * c ⟨d.val % 64, Nat.mod_lt _ (by decide)⟩
    + X ⟨(d.val + 64) % 128, Nat.mod_lt _ (by decide)⟩
      * (if d.val < 64 then s ⟨d.val % 64, Nat.mod_lt _ (by decide)⟩ else -s ⟨d.val % 64, Nat.mod_lt _ (by decide)⟩)

/-- In the first half of the features it adds. -/
theorem rope_lo (X : Fin 128 → EReal) (c s : Fin 64 → EReal) (d : Fin 64) :
    rope X c s ⟨d.val, by omega⟩ = X ⟨d.val, by omega⟩ * c d + X ⟨d.val + 64, by omega⟩ * s d := by
  unfold rope
  have h := d.isLt
  have e : (⟨d.val % 64, Nat.mod_lt _ (by decide)⟩ : Fin 64) = d := Fin.ext (Nat.mod_eq_of_lt h)
  have e' : (⟨(d.val + 64) % 128, Nat.mod_lt _ (by decide)⟩ : Fin 128) = ⟨d.val + 64, by omega⟩ := Fin.ext (Nat.mod_eq_of_lt (by omega))
  dsimp only
  rw [if_pos h, e, e']

/-- In the second half it subtracts. -/
theorem rope_hi (X : Fin 128 → EReal) (c s : Fin 64 → EReal) (d : Fin 64) :
    rope X c s ⟨d.val + 64, by omega⟩ = X ⟨d.val + 64, by omega⟩ * c d - X ⟨d.val, by omega⟩ * s d := by
  unfold rope
  have h := d.isLt
  have e : (⟨(d.val + 64) % 64, Nat.mod_lt _ (by decide)⟩ : Fin 64) = d := Fin.ext (by dsimp only; omega)
  have e' : (⟨(d.val + 64 + 64) % 128, Nat.mod_lt _ (by decide)⟩ : Fin 128) = ⟨d.val, by omega⟩ := Fin.ext (by dsimp only; omega)
  dsimp only
  rw [if_neg (by omega), e, e', mul_neg, sub_eq_add_neg]

/-- The gradient of batch `a`, position `b` at column `Q`: 48 query heads and 8 key heads rotated back, then 8 value heads as they are. -/
def target (x0 : (⟨4, ![7, 256, 48, 128]⟩ : Shape).Idx → EReal) (x1 x2 : (⟨4, ![7, 256, 8, 128]⟩ : Shape).Idx → EReal)
    (c s : Fin 7 → Fin 256 → Fin 64 → EReal) (a : Fin 7) (b : Fin 256) (Q : Fin 8192) : EReal :=
  if h : Q.val < 6144 then
    rope (fun d => x0 (ix4 a b ⟨Q.val / 128, by omega⟩ d)) (c a b) (s a b) ⟨Q.val % 128, Nat.mod_lt _ (by decide)⟩
  else if h' : Q.val < 7168 then
    rope (fun d => x1 (ix4 a b ⟨(Q.val - 6144) / 128, by omega⟩ d)) (c a b) (s a b) ⟨Q.val % 128, Nat.mod_lt _ (by decide)⟩
  else x2 (ix4 a b ⟨(Q.val - 7168) / 128, by omega⟩ ⟨Q.val % 128, Nat.mod_lt _ (by decide)⟩)

end Cert.Hand

end
-- ==== Proof.KernelEq.lean ====
/- The kernel program's gradient, before it is quantised, is the concatenated gradient with the rotation undone. -/
module

public import proofs.«01_k».proof.Proof.KernelVals
public import proofs.«01_k».proof.Proof.KernelCodes
public import proofs.«01_k».proof.Proof.Target

@[expose] public section

set_option maxRecDepth 16384

noncomputable section

namespace Cert.KernelIdeal.Hand

open Cert.KernelIdeal Cert.KernelIdeal.Gen Cert.KernelIdeal.Vals Cert.Hand
open Idealize.ShloMosaic Idealize.ShloMosaic.TcCoe Idealize.SL.Sem

/-- The angle at a position and one of the 64 frequencies. -/
def angle (x3 : (⟨S7x256, .i32⟩ : BufTy).Contents (Elt Ideal)) (a : Fin 7) (b : Fin 256) (k : Fin 64) : EReal :=
  FloatOps.mulf (F := Ideal) (φ := .f32) (FloatOps.sitofp (F := Ideal) .f32 (x3 (ix2 a b))) (val_main_v10 (F := Ideal) (ix1 k))

/-- Its cosine. -/
def cosAt (x3 : (⟨S7x256, .i32⟩ : BufTy).Contents (Elt Ideal)) (a : Fin 7) (b : Fin 256) (k : Fin 64) : EReal :=
  FloatOps.hostUnary (F := Ideal) (φ := .f32) .cos (angle x3 a b k)

/-- Its sine. -/
def sinAt (x3 : (⟨S7x256, .i32⟩ : BufTy).Contents (Elt Ideal)) (a : Fin 7) (b : Fin 256) (k : Fin 64) : EReal :=
  FloatOps.hostUnary (F := Ideal) (φ := .f32) .sin (angle x3 a b k)

/-- The row of the 1792 at batch `a` and position `b`. -/
def flatRow (a : Fin 7) (b : Fin 256) : Fin 1792 := ⟨a.val * 256 + b.val, by omega⟩

theorem v16_eq (x3 : (⟨S7x256, .i32⟩ : BufTy).Contents (Elt Ideal)) (a : Fin 7) (b : Fin 256) (k : Fin 64) :
    (val_main_v16 (F := Ideal) x3 (ix2 (flatRow a b) k) : EReal) = angle x3 a b k := by
  rw [val_main_v16_apply, val_main_v14_apply, val_main_v12_apply, val_main_v11_apply, val_main_v15_apply, val_main_v13_apply]
  have e : idx_main_v12 (idx_main_v14 (ix2 (flatRow a b) k)) = ix2 a b := by
    refine (ix2_eta (n0 := 7) (n1 := 256) _).symm.trans ?_
    congr 1
    · apply Fin.ext
      show ((a.val * 256 + b.val) * 1 + 0) / 256 = a.val
      omega
    · apply Fin.ext
      show ((a.val * 256 + b.val) * 1 + 0) % 256 = b.val
      omega
  have e' : idx_main_v13 (idx_main_v15 (ix2 (flatRow a b) k)) = ix1 k := (ix1_eta (n0 := 64) _).symm
  rw [e, e']
  rfl

theorem v19_eq (x3 : (⟨S7x256, .i32⟩ : BufTy).Contents (Elt Ideal)) (a : Fin 7) (b : Fin 256) (q : Fin 128) :
    (val_main_v19 (F := Ideal) x3 (ix2 (flatRow a b) q) : EReal) = cosAt x3 a b ⟨q.val % 64, Nat.mod_lt _ (by decide)⟩ := by
  unfold val_main_v19
  unfold cosAt
  rw [← v16_eq]
  by_cases h : q.val < 64
  · refine (concatenate_pair_apply_left (t := S1792x128) (s₁ := S1792x64) (s₂ := S1792x64) 1 _ _ _ _ rfl (ix2 (flatRow a b) ⟨q.val % 64, Nat.mod_lt _ (by decide)⟩) ?_).trans rfl
    intro d
    match d with
    | ⟨0, _⟩ => rfl
    | ⟨1, _⟩ => exact Nat.mod_eq_of_lt h
  · refine (concatenate_pair_apply_right (t := S1792x128) (s₁ := S1792x64) (s₂ := S1792x64) 1 _ _ _ _ rfl rfl (ix2 (flatRow a b) ⟨q.val % 64, Nat.mod_lt _ (by decide)⟩) ?_ ?_).trans rfl
    · intro d hd
      match d with
      | ⟨0, _⟩ => rfl
      | ⟨1, _⟩ => exact absurd rfl hd
    · show q.val % 64 + 64 = q.val
      have := q.isLt
      omega

theorem v21_eq (x3 : (⟨S7x256, .i32⟩ : BufTy).Contents (Elt Ideal)) (a : Fin 7) (b : Fin 256) (q : Fin 128) :
    (val_main_v21 (F := Ideal) x3 (ix2 (flatRow a b) q) : EReal)
      = if q.val < 64 then sinAt x3 a b ⟨q.val % 64, Nat.mod_lt _ (by decide)⟩ else -sinAt x3 a b ⟨q.val % 64, Nat.mod_lt _ (by decide)⟩ := by
  unfold val_main_v21
  unfold sinAt
  rw [← v16_eq]
  by_cases h : q.val < 64
  · rw [if_pos h]
    refine (concatenate_pair_apply_left (t := S1792x128) (s₁ := S1792x64) (s₂ := S1792x64) 1 _ _ _ _ rfl (ix2 (flatRow a b) ⟨q.val % 64, Nat.mod_lt _ (by decide)⟩) ?_).trans rfl
    intro d
    match d with
    | ⟨0, _⟩ => rfl
    | ⟨1, _⟩ => exact Nat.mod_eq_of_lt h
  · rw [if_neg h]
    refine (concatenate_pair_apply_right (t := S1792x128) (s₁ := S1792x64) (s₂ := S1792x64) 1 _ _ _ _ rfl rfl (ix2 (flatRow a b) ⟨q.val % 64, Nat.mod_lt _ (by decide)⟩) ?_ ?_).trans rfl
    · intro d hd
      match d with
      | ⟨0, _⟩ => rfl
      | ⟨1, _⟩ => exact absurd rfl hd
    · show q.val % 64 + 64 = q.val
      have := q.isLt
      omega

section
variable (x0 : (⟨S7x256x48x128, .bf16⟩ : BufTy).Contents (Elt Ideal)) (x1 x2 : (⟨S7x256x8x128, .bf16⟩ : BufTy).Contents (Elt Ideal))

/-- The concatenated gradient at a query head's column. -/
theorem v56_q (a : Fin 7) (b : Fin 256) (Q : Fin 8192) (h : Q.val < 6144) :
    val_main_v56 (F := Ideal) x0 x1 x2 (ix2 (flatRow a b) Q)
      = x0 (ix4 a b ⟨Q.val / 128, by omega⟩ ⟨Q.val % 128, Nat.mod_lt _ (by decide)⟩) := by
  unfold val_main_v56
  refine (concatenate_apply_piece (t := S1792x8192) 1 _ _ (ix2 (flatRow a b) Q) 0 (by show 0 < 3; omega) S1792x6144 (val_main_v53 (F := Ideal) x0) rfl rfl 0 rfl
    (ix2 (flatRow a b) ⟨Q.val, h⟩) ?_ ?_).trans ?_
  · intro d hd
    match d with
    | ⟨0, _⟩ => rfl
    | ⟨1, _⟩ => exact absurd rfl hd
  · show 0 + Q.val = Q.val
    omega
  · rw [val_main_v53_apply]
    have hb := b.isLt
    refine congrArg _ (funext fun d => ?_)
    match d with
    | ⟨0, _⟩ => exact Fin.ext (by show ((a.val * 256 + b.val) * 6144 + Q.val) / 1572864 = a.val; omega)
    | ⟨1, _⟩ => exact Fin.ext (by show ((a.val * 256 + b.val) * 6144 + Q.val) / 6144 % 256 = b.val; omega)
    | ⟨2, _⟩ => exact Fin.ext (by show ((a.val * 256 + b.val) * 6144 + Q.val) / 128 % 48 = Q.val / 128; omega)
    | ⟨3, _⟩ => exact Fin.ext (by show ((a.val * 256 + b.val) * 6144 + Q.val) % 128 = Q.val % 128; omega)

/-- At a key head's column. -/
theorem v56_k (a : Fin 7) (b : Fin 256) (Q : Fin 8192) (h : 6144 ≤ Q.val) (h' : Q.val < 7168) :
    val_main_v56 (F := Ideal) x0 x1 x2 (ix2 (flatRow a b) Q)
      = x1 (ix4 a b ⟨(Q.val - 6144) / 128, by omega⟩ ⟨Q.val % 128, Nat.mod_lt _ (by decide)⟩) := by
  unfold val_main_v56
  refine (concatenate_apply_piece (t := S1792x8192) 1 _ _ (ix2 (flatRow a b) Q) 1 (by show 1 < 3; omega) S1792x1024 (val_main_v54 (F := Ideal) x1) rfl rfl 6144 rfl
    (ix2 (flatRow a b) ⟨Q.val - 6144, by omega⟩) ?_ ?_).trans ?_
  · intro d hd
    match d with
    | ⟨0, _⟩ => rfl
    | ⟨1, _⟩ => exact absurd rfl hd
  · show 6144 + (Q.val - 6144) = Q.val
    omega
  · rw [val_main_v54_apply]
    have hb := b.isLt
    refine congrArg _ (funext fun d => ?_)
    match d with
    | ⟨0, _⟩ => exact Fin.ext (by show ((a.val * 256 + b.val) * 1024 + (Q.val - 6144)) / 262144 = a.val; omega)
    | ⟨1, _⟩ => exact Fin.ext (by show ((a.val * 256 + b.val) * 1024 + (Q.val - 6144)) / 1024 % 256 = b.val; omega)
    | ⟨2, _⟩ => exact Fin.ext (by show ((a.val * 256 + b.val) * 1024 + (Q.val - 6144)) / 128 % 8 = (Q.val - 6144) / 128; omega)
    | ⟨3, _⟩ => exact Fin.ext (by show ((a.val * 256 + b.val) * 1024 + (Q.val - 6144)) % 128 = Q.val % 128; omega)

/-- At a value head's column. -/
theorem v56_v (a : Fin 7) (b : Fin 256) (Q : Fin 8192) (h : 7168 ≤ Q.val) :
    val_main_v56 (F := Ideal) x0 x1 x2 (ix2 (flatRow a b) Q)
      = x2 (ix4 a b ⟨(Q.val - 7168) / 128, by omega⟩ ⟨Q.val % 128, Nat.mod_lt _ (by decide)⟩) := by
  unfold val_main_v56
  refine (concatenate_apply_piece (t := S1792x8192) 1 _ _ (ix2 (flatRow a b) Q) 2 (by show 2 < 3; omega) S1792x1024 (val_main_v55 (F := Ideal) x2) rfl rfl 7168 rfl
    (ix2 (flatRow a b) ⟨Q.val - 7168, by omega⟩) ?_ ?_).trans ?_
  · intro d hd
    match d with
    | ⟨0, _⟩ => rfl
    | ⟨1, _⟩ => exact absurd rfl hd
  · show 7168 + (Q.val - 7168) = Q.val
    omega
  · rw [val_main_v55_apply]
    have hb := b.isLt
    refine congrArg _ (funext fun d => ?_)
    match d with
    | ⟨0, _⟩ => exact Fin.ext (by show ((a.val * 256 + b.val) * 1024 + (Q.val - 7168)) / 262144 = a.val; omega)
    | ⟨1, _⟩ => exact Fin.ext (by show ((a.val * 256 + b.val) * 1024 + (Q.val - 7168)) / 1024 % 256 = b.val; omega)
    | ⟨2, _⟩ => exact Fin.ext (by show ((a.val * 256 + b.val) * 1024 + (Q.val - 7168)) / 128 % 8 = (Q.val - 7168) / 128; omega)
    | ⟨3, _⟩ => exact Fin.ext (by show ((a.val * 256 + b.val) * 1024 + (Q.val - 7168)) % 128 = Q.val % 128; omega)

/-- The kernel program's rotated gradient is the target. -/
theorem whole_eq (x3 : (⟨S7x256, .i32⟩ : BufTy).Contents (Elt Ideal)) (a : Fin 7) (b : Fin 256) (Q : Fin 8192) :
    whole (val_main_v56 (F := Ideal) x0 x1 x2) (val_main_v19 (F := Ideal) x3) (val_main_v21 (F := Ideal) x3) (flatRow a b) Q
      = target x0 x1 x2 (cosAt x3) (sinAt x3) a b Q := by
  unfold whole target
  have hQ := Q.isLt
  by_cases h : Q.val < 6144
  · rw [if_pos (by omega), dif_pos h, v19_eq, v21_eq, v56_q x0 x1 x2 a b Q h, v56_q x0 x1 x2 a b ⟨_, _⟩ (by dsimp only; omega)]
    unfold rope
    have e : (⟨(Q.val / 128 * 128 + (Q.val % 128 + 64) % 128) / 128, by omega⟩ : Fin 48) = ⟨Q.val / 128, by omega⟩ := Fin.ext (by dsimp only; omega)
    have e' : (⟨(Q.val / 128 * 128 + (Q.val % 128 + 64) % 128) % 128, by omega⟩ : Fin 128) = ⟨(Q.val % 128 + 64) % 128, by omega⟩ :=
      Fin.ext (by dsimp only; omega)
    rw [e, e']
  · rw [dif_neg h]
    by_cases h' : Q.val < 7168
    · rw [if_pos h', dif_pos h', v19_eq, v21_eq, v56_k x0 x1 x2 a b Q (by omega) h', v56_k x0 x1 x2 a b ⟨_, _⟩ (by dsimp only; omega) (by dsimp only; omega)]
      unfold rope
      have e : (⟨(Q.val / 128 * 128 + (Q.val % 128 + 64) % 128 - 6144) / 128, by omega⟩ : Fin 8) = ⟨(Q.val - 6144) / 128, by omega⟩ :=
        Fin.ext (by dsimp only; omega)
      have e' : (⟨(Q.val / 128 * 128 + (Q.val % 128 + 64) % 128) % 128, by omega⟩ : Fin 128) = ⟨(Q.val % 128 + 64) % 128, by omega⟩ :=
        Fin.ext (by dsimp only; omega)
      rw [e, e']
    · rw [if_neg h', dif_neg h', v56_v x0 x1 x2 a b Q (by omega)]

end

end Cert.KernelIdeal.Hand

end
-- ==== Proof.RefVals.lean ====
/- The values the host operations of the reference's program compute, one definition per operation, as functions of the
   program's arguments, and each read at an index where its element comes from one element of each operand. -/
module

public import proofs.«01_k».proof.Proof.Gen.ReferenceIdeal
public import Idealize.ShloMosaic.Lib.Pipeline.Value

@[expose] public section

noncomputable section

namespace Cert.ReferenceIdeal.Vals

open Cert.ReferenceIdeal Cert.ReferenceIdeal.Gen Idealize.ShloMosaic Idealize.ShloMosaic.TcCoe Idealize.SL.Sem Idealize.ShloMosaic.StableHlo

variable {F : FTy → Type} [FloatOps F]

/-- `%0 = stablehlo.iota dim = 0 : tensor<64xf32>` -/
def val_main_v0 : (⟨S64, .f32⟩ : BufTy).Contents (Elt F) :=
  sitofp .f32 (iotaInDim S64 32 0)

/-- `%cst = stablehlo.constant dense<2.000000e+00> : tensor<f32>` -/
def val_main_cst : (⟨S_, .f32⟩ : BufTy).Contents (Elt F) :=
  constant S_ .f32 0x40000000#32
/-- The value of `main_cst` at an index, from its operands' values. -/
theorem val_main_cst_apply (i : S_.Idx) :
    val_main_cst (F := F) i = FloatOps.ofBits .f32 0x40000000#32 := rfl

/-- `%1 = stablehlo.broadcast_in_dim %cst, dims = [] : (tensor<f32>) -> tensor<64xf32>` -/
def val_main_v1 : (⟨S64, .f32⟩ : BufTy).Contents (Elt F) :=
  broadcastInDim S64 ![] bcast_S_S64 (val_main_cst (F := F))
/-- Where `main_v1` reads its operand. -/
abbrev idx_main_v1 (i : S64.Idx) : S_.Idx := fun a => a.elim0
/-- The value of `main_v1` at an index, from its operands' values. -/
theorem val_main_v1_apply (i : S64.Idx) :
    val_main_v1 (F := F) i = val_main_cst (F := F) (idx_main_v1 i) := by
  unfold val_main_v1
  generalize val_main_cst (F := F) = y
  exact broadcastInDim_apply _ bcast_S_S64 y i (idx_main_v1 i) (fun a => a.elim0)

/-- `%2 = stablehlo.multiply %1, %0 : tensor<64xf32>` -/
def val_main_v2 : (⟨S64, .f32⟩ : BufTy).Contents (Elt F) :=
  mulf (val_main_v1 (F := F)) (val_main_v0 (F := F))
/-- The value of `main_v2` at an index, from its operands' values. -/
theorem val_main_v2_apply (i : S64.Idx) :
    val_main_v2 (F := F) i = FloatOps.mulf (val_main_v1 (F := F) i) (val_main_v0 (F := F) i) := rfl

/-- `%cst_0 = stablehlo.constant dense<0.000000e+00> : tensor<f32>` -/
def val_main_cst_0 : (⟨S_, .f32⟩ : BufTy).Contents (Elt F) :=
  constant S_ .f32 0x00000000#32
/-- The value of `main_cst_0` at an index, from its operands' values. -/
theorem val_main_cst_0_apply (i : S_.Idx) :
    val_main_cst_0 (F := F) i = FloatOps.ofBits .f32 0x00000000#32 := rfl

/-- `%3 = stablehlo.broadcast_in_dim %cst_0, dims = [] : (tensor<f32>) -> tensor<64xf32>` -/
def val_main_v3 : (⟨S64, .f32⟩ : BufTy).Contents (Elt F) :=
  broadcastInDim S64 ![] bcast_S_S64 (val_main_cst_0 (F := F))
/-- Where `main_v3` reads its operand. -/
abbrev idx_main_v3 (i : S64.Idx) : S_.Idx := fun a => a.elim0
/-- The value of `main_v3` at an index, from its operands' values. -/
theorem val_main_v3_apply (i : S64.Idx) :
    val_main_v3 (F := F) i = val_main_cst_0 (F := F) (idx_main_v3 i) := by
  unfold val_main_v3
  generalize val_main_cst_0 (F := F) = y
  exact broadcastInDim_apply _ bcast_S_S64 y i (idx_main_v3 i) (fun a => a.elim0)

/-- `%4 = stablehlo.add %3, %2 : tensor<64xf32>` -/
def val_main_v4 : (⟨S64, .f32⟩ : BufTy).Contents (Elt F) :=
  addf (val_main_v3 (F := F)) (val_main_v2 (F := F))
/-- The value of `main_v4` at an index, from its operands' values. -/
theorem val_main_v4_apply (i : S64.Idx) :
    val_main_v4 (F := F) i = FloatOps.addf (val_main_v3 (F := F) i) (val_main_v2 (F := F) i) := rfl

/-- `%cst_1 = stablehlo.constant dense<1.280000e+02> : tensor<f32>` -/
def val_main_cst_1 : (⟨S_, .f32⟩ : BufTy).Contents (Elt F) :=
  constant S_ .f32 0x43000000#32
/-- The value of `main_cst_1` at an index, from its operands' values. -/
theorem val_main_cst_1_apply (i : S_.Idx) :
    val_main_cst_1 (F := F) i = FloatOps.ofBits .f32 0x43000000#32 := rfl

/-- `%5 = stablehlo.broadcast_in_dim %cst_1, dims = [] : (tensor<f32>) -> tensor<64xf32>` -/
def val_main_v5 : (⟨S64, .f32⟩ : BufTy).Contents (Elt F) :=
  broadcastInDim S64 ![] bcast_S_S64 (val_main_cst_1 (F := F))
/-- Where `main_v5` reads its operand. -/
abbrev idx_main_v5 (i : S64.Idx) : S_.Idx := fun a => a.elim0
/-- The value of `main_v5` at an index, from its operands' values. -/
theorem val_main_v5_apply (i : S64.Idx) :
    val_main_v5 (F := F) i = val_main_cst_1 (F := F) (idx_main_v5 i) := by
  unfold val_main_v5
  generalize val_main_cst_1 (F := F) = y
  exact broadcastInDim_apply _ bcast_S_S64 y i (idx_main_v5 i) (fun a => a.elim0)

/-- `%6 = stablehlo.divide %4, %5 : tensor<64xf32>` -/
def val_main_v6 : (⟨S64, .f32⟩ : BufTy).Contents (Elt F) :=
  Host.divf (val_main_v4 (F := F)) (val_main_v5 (F := F))
/-- The value of `main_v6` at an index, from its operands' values. -/
theorem val_main_v6_apply (i : S64.Idx) :
    val_main_v6 (F := F) i = FloatOps.hostDivf (val_main_v4 (F := F) i) (val_main_v5 (F := F) i) := rfl

/-- `%cst_2 = stablehlo.constant dense<1.000000e+04> : tensor<f32>` -/
def val_main_cst_2 : (⟨S_, .f32⟩ : BufTy).Contents (Elt F) :=
  constant S_ .f32 0x461C4000#32
/-- The value of `main_cst_2` at an index, from its operands' values. -/
theorem val_main_cst_2_apply (i : S_.Idx) :
    val_main_cst_2 (F := F) i = FloatOps.ofBits .f32 0x461C4000#32 := rfl

/-- `%7 = stablehlo.broadcast_in_dim %cst_2, dims = [] : (tensor<f32>) -> tensor<64xf32>` -/
def val_main_v7 : (⟨S64, .f32⟩ : BufTy).Contents (Elt F) :=
  broadcastInDim S64 ![] bcast_S_S64 (val_main_cst_2 (F := F))
/-- Where `main_v7` reads its operand. -/
abbrev idx_main_v7 (i : S64.Idx) : S_.Idx := fun a => a.elim0
/-- The value of `main_v7` at an index, from its operands' values. -/
theorem val_main_v7_apply (i : S64.Idx) :
    val_main_v7 (F := F) i = val_main_cst_2 (F := F) (idx_main_v7 i) := by
  unfold val_main_v7
  generalize val_main_cst_2 (F := F) = y
  exact broadcastInDim_apply _ bcast_S_S64 y i (idx_main_v7 i) (fun a => a.elim0)

/-- `%8 = stablehlo.power %7, %6 : tensor<64xf32>` -/
def val_main_v8 : (⟨S64, .f32⟩ : BufTy).Contents (Elt F) :=
  Host.powf (val_main_v7 (F := F)) (val_main_v6 (F := F))
/-- The value of `main_v8` at an index, from its operands' values. -/
theorem val_main_v8_apply (i : S64.Idx) :
    val_main_v8 (F := F) i = FloatOps.hostPowf (val_main_v7 (F := F) i) (val_main_v6 (F := F) i) := rfl

/-- `%cst_3 = stablehlo.constant dense<1.000000e+00> : tensor<f32>` -/
def val_main_cst_3 : (⟨S_, .f32⟩ : BufTy).Contents (Elt F) :=
  constant S_ .f32 0x3F800000#32
/-- The value of `main_cst_3` at an index, from its operands' values. -/
theorem val_main_cst_3_apply (i : S_.Idx) :
    val_main_cst_3 (F := F) i = FloatOps.ofBits .f32 0x3F800000#32 := rfl

/-- `%9 = stablehlo.broadcast_in_dim %cst_3, dims = [] : (tensor<f32>) -> tensor<64xf32>` -/
def val_main_v9 : (⟨S64, .f32⟩ : BufTy).Contents (Elt F) :=
  broadcastInDim S64 ![] bcast_S_S64 (val_main_cst_3 (F := F))
/-- Where `main_v9` reads its operand. -/
abbrev idx_main_v9 (i : S64.Idx) : S_.Idx := fun a => a.elim0
/-- The value of `main_v9` at an index, from its operands' values. -/
theorem val_main_v9_apply (i : S64.Idx) :
    val_main_v9 (F := F) i = val_main_cst_3 (F := F) (idx_main_v9 i) := by
  unfold val_main_v9
  generalize val_main_cst_3 (F := F) = y
  exact broadcastInDim_apply _ bcast_S_S64 y i (idx_main_v9 i) (fun a => a.elim0)

/-- `%10 = stablehlo.divide %9, %8 : tensor<64xf32>` -/
def val_main_v10 : (⟨S64, .f32⟩ : BufTy).Contents (Elt F) :=
  Host.divf (val_main_v9 (F := F)) (val_main_v8 (F := F))
/-- The value of `main_v10` at an index, from its operands' values. -/
theorem val_main_v10_apply (i : S64.Idx) :
    val_main_v10 (F := F) i = FloatOps.hostDivf (val_main_v9 (F := F) i) (val_main_v8 (F := F) i) := rfl

/-- `%11 = stablehlo.convert %arg3 : (tensor<7x256xi32>) -> tensor<7x256xf32>` -/
def val_main_v11 (x3 : (⟨S7x256, .i32⟩ : BufTy).Contents (Elt F)) : (⟨S7x256, .f32⟩ : BufTy).Contents (Elt F) :=
  sitofp .f32 (x3)
/-- The value of `main_v11` at an index, from its operands' values. -/
theorem val_main_v11_apply (x3 : (⟨S7x256, .i32⟩ : BufTy).Contents (Elt F)) (i : S7x256.Idx) :
    val_main_v11 (F := F) x3 i = FloatOps.sitofp .f32 (x3 i) := rfl

/-- `%12 = stablehlo.broadcast_in_dim %11, dims = [0, 1] : (tensor<7x256xf32>) -> tensor<7x256x1xf32>` -/
def val_main_v12 (x3 : (⟨S7x256, .i32⟩ : BufTy).Contents (Elt F)) : (⟨S7x256x1, .f32⟩ : BufTy).Contents (Elt F) :=
  broadcastInDim S7x256x1 ![0, 1] bcast_S7x256_S7x256x1_0_1 (val_main_v11 (F := F) x3)
/-- Where `main_v12` reads its operand. -/
abbrev idx_main_v12 (i : S7x256x1.Idx) : S7x256.Idx := fun a => match a with
  | ⟨0, _⟩ => ⟨(i 0).val, (i 0).isLt⟩
  | ⟨1, _⟩ => ⟨(i 1).val, (i 1).isLt⟩
/-- The value of `main_v12` at an index, from its operands' values. -/
theorem val_main_v12_apply (x3 : (⟨S7x256, .i32⟩ : BufTy).Contents (Elt F)) (i : S7x256x1.Idx) :
    val_main_v12 (F := F) x3 i = val_main_v11 (F := F) x3 (idx_main_v12 i) := by
  unfold val_main_v12
  generalize val_main_v11 (F := F) x3 = y
  exact broadcastInDim_apply _ bcast_S7x256_S7x256x1_0_1 y i (idx_main_v12 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)])

/-- `%13 = stablehlo.broadcast_in_dim %10, dims = [2] : (tensor<64xf32>) -> tensor<1x1x64xf32>` -/
def val_main_v13 : (⟨S1x1x64, .f32⟩ : BufTy).Contents (Elt F) :=
  broadcastInDim S1x1x64 ![2] bcast_S64_S1x1x64_2 (val_main_v10 (F := F))
/-- Where `main_v13` reads its operand. -/
abbrev idx_main_v13 (i : S1x1x64.Idx) : S64.Idx := fun a => match a with
  | ⟨0, _⟩ => ⟨(i 2).val, (i 2).isLt⟩
/-- The value of `main_v13` at an index, from its operands' values. -/
theorem val_main_v13_apply (i : S1x1x64.Idx) :
    val_main_v13 (F := F) i = val_main_v10 (F := F) (idx_main_v13 i) := by
  unfold val_main_v13
  generalize val_main_v10 (F := F) = y
  exact broadcastInDim_apply _ bcast_S64_S1x1x64_2 y i (idx_main_v13 i) (fun a => match a with
    | ⟨0, _⟩ => by show (i 2).val = if (64 : Nat) = 1 then 0 else (i 2).val; rw [if_neg (by decide)])

/-- `%14 = stablehlo.broadcast_in_dim %12, dims = [0, 1, 2] : (tensor<7x256x1xf32>) -> tensor<7x256x64xf32>` -/
def val_main_v14 (x3 : (⟨S7x256, .i32⟩ : BufTy).Contents (Elt F)) : (⟨S7x256x64, .f32⟩ : BufTy).Contents (Elt F) :=
  broadcastInDim S7x256x64 ![0, 1, 2] bcast_S7x256x1_S7x256x64_0_1_2 (val_main_v12 (F := F) x3)
/-- Where `main_v14` reads its operand. -/
abbrev idx_main_v14 (i : S7x256x64.Idx) : S7x256x1.Idx := fun a => match a with
  | ⟨0, _⟩ => ⟨(i 0).val, (i 0).isLt⟩
  | ⟨1, _⟩ => ⟨(i 1).val, (i 1).isLt⟩
  | ⟨2, _⟩ => ⟨0, Nat.one_pos⟩
/-- The value of `main_v14` at an index, from its operands' values. -/
theorem val_main_v14_apply (x3 : (⟨S7x256, .i32⟩ : BufTy).Contents (Elt F)) (i : S7x256x64.Idx) :
    val_main_v14 (F := F) x3 i = val_main_v12 (F := F) x3 (idx_main_v14 i) := by
  unfold val_main_v14
  generalize val_main_v12 (F := F) x3 = y
  exact broadcastInDim_apply _ bcast_S7x256x1_S7x256x64_0_1_2 y i (idx_main_v14 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

/-- `%15 = stablehlo.broadcast_in_dim %13, dims = [0, 1, 2] : (tensor<1x1x64xf32>) -> tensor<7x256x64xf32>` -/
def val_main_v15 : (⟨S7x256x64, .f32⟩ : BufTy).Contents (Elt F) :=
  broadcastInDim S7x256x64 ![0, 1, 2] bcast_S1x1x64_S7x256x64_0_1_2 (val_main_v13 (F := F))
/-- Where `main_v15` reads its operand. -/
abbrev idx_main_v15 (i : S7x256x64.Idx) : S1x1x64.Idx := fun a => match a with
  | ⟨0, _⟩ => ⟨0, Nat.one_pos⟩
  | ⟨1, _⟩ => ⟨0, Nat.one_pos⟩
  | ⟨2, _⟩ => ⟨(i 2).val, (i 2).isLt⟩
/-- The value of `main_v15` at an index, from its operands' values. -/
theorem val_main_v15_apply (i : S7x256x64.Idx) :
    val_main_v15 (F := F) i = val_main_v13 (F := F) (idx_main_v15 i) := by
  unfold val_main_v15
  generalize val_main_v13 (F := F) = y
  exact broadcastInDim_apply _ bcast_S1x1x64_S7x256x64_0_1_2 y i (idx_main_v15 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])

/-- `%16 = stablehlo.multiply %14, %15 : tensor<7x256x64xf32>` -/
def val_main_v16 (x3 : (⟨S7x256, .i32⟩ : BufTy).Contents (Elt F)) : (⟨S7x256x64, .f32⟩ : BufTy).Contents (Elt F) :=
  mulf (val_main_v14 (F := F) x3) (val_main_v15 (F := F))
/-- The value of `main_v16` at an index, from its operands' values. -/
theorem val_main_v16_apply (x3 : (⟨S7x256, .i32⟩ : BufTy).Contents (Elt F)) (i : S7x256x64.Idx) :
    val_main_v16 (F := F) x3 i = FloatOps.mulf (val_main_v14 (F := F) x3 i) (val_main_v15 (F := F) i) := rfl

/-- `%17 = stablehlo.cosine %16 : tensor<7x256x64xf32>` -/
def val_main_v17 (x3 : (⟨S7x256, .i32⟩ : BufTy).Contents (Elt F)) : (⟨S7x256x64, .f32⟩ : BufTy).Contents (Elt F) :=
  Host.cos (val_main_v16 (F := F) x3)
/-- The value of `main_v17` at an index, from its operands' values. -/
theorem val_main_v17_apply (x3 : (⟨S7x256, .i32⟩ : BufTy).Contents (Elt F)) (i : S7x256x64.Idx) :
    val_main_v17 (F := F) x3 i = FloatOps.hostUnary .cos (val_main_v16 (F := F) x3 i) := rfl

/-- `%18 = stablehlo.broadcast_in_dim %17, dims = [0, 1, 3] : (tensor<7x256x64xf32>) -> tensor<7x256x1x64xf32>` -/
def val_main_v18 (x3 : (⟨S7x256, .i32⟩ : BufTy).Contents (Elt F)) : (⟨S7x256x1x64, .f32⟩ : BufTy).Contents (Elt F) :=
  broadcastInDim S7x256x1x64 ![0, 1, 3] bcast_S7x256x64_S7x256x1x64_0_1_3 (val_main_v17 (F := F) x3)
/-- Where `main_v18` reads its operand. -/
abbrev idx_main_v18 (i : S7x256x1x64.Idx) : S7x256x64.Idx := fun a => match a with
  | ⟨0, _⟩ => ⟨(i 0).val, (i 0).isLt⟩
  | ⟨1, _⟩ => ⟨(i 1).val, (i 1).isLt⟩
  | ⟨2, _⟩ => ⟨(i 3).val, (i 3).isLt⟩
/-- The value of `main_v18` at an index, from its operands' values. -/
theorem val_main_v18_apply (x3 : (⟨S7x256, .i32⟩ : BufTy).Contents (Elt F)) (i : S7x256x1x64.Idx) :
    val_main_v18 (F := F) x3 i = val_main_v17 (F := F) x3 (idx_main_v18 i) := by
  unfold val_main_v18
  generalize val_main_v17 (F := F) x3 = y
  exact broadcastInDim_apply _ bcast_S7x256x64_S7x256x1x64_0_1_3 y i (idx_main_v18 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show (i 3).val = if (64 : Nat) = 1 then 0 else (i 3).val; rw [if_neg (by decide)])

/-- `%19 = stablehlo.sine %16 : tensor<7x256x64xf32>` -/
def val_main_v19 (x3 : (⟨S7x256, .i32⟩ : BufTy).Contents (Elt F)) : (⟨S7x256x64, .f32⟩ : BufTy).Contents (Elt F) :=
  Host.sin (val_main_v16 (F := F) x3)
/-- The value of `main_v19` at an index, from its operands' values. -/
theorem val_main_v19_apply (x3 : (⟨S7x256, .i32⟩ : BufTy).Contents (Elt F)) (i : S7x256x64.Idx) :
    val_main_v19 (F := F) x3 i = FloatOps.hostUnary .sin (val_main_v16 (F := F) x3 i) := rfl

/-- `%20 = stablehlo.broadcast_in_dim %19, dims = [0, 1, 3] : (tensor<7x256x64xf32>) -> tensor<7x256x1x64xf32>` -/
def val_main_v20 (x3 : (⟨S7x256, .i32⟩ : BufTy).Contents (Elt F)) : (⟨S7x256x1x64, .f32⟩ : BufTy).Contents (Elt F) :=
  broadcastInDim S7x256x1x64 ![0, 1, 3] bcast_S7x256x64_S7x256x1x64_0_1_3 (val_main_v19 (F := F) x3)
/-- Where `main_v20` reads its operand. -/
abbrev idx_main_v20 (i : S7x256x1x64.Idx) : S7x256x64.Idx := fun a => match a with
  | ⟨0, _⟩ => ⟨(i 0).val, (i 0).isLt⟩
  | ⟨1, _⟩ => ⟨(i 1).val, (i 1).isLt⟩
  | ⟨2, _⟩ => ⟨(i 3).val, (i 3).isLt⟩
/-- The value of `main_v20` at an index, from its operands' values. -/
theorem val_main_v20_apply (x3 : (⟨S7x256, .i32⟩ : BufTy).Contents (Elt F)) (i : S7x256x1x64.Idx) :
    val_main_v20 (F := F) x3 i = val_main_v19 (F := F) x3 (idx_main_v20 i) := by
  unfold val_main_v20
  generalize val_main_v19 (F := F) x3 = y
  exact broadcastInDim_apply _ bcast_S7x256x64_S7x256x1x64_0_1_3 y i (idx_main_v20 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show (i 3).val = if (64 : Nat) = 1 then 0 else (i 3).val; rw [if_neg (by decide)])

/-- `%21 = stablehlo.convert %arg0 : (tensor<7x256x48x128xbf16>) -> tensor<7x256x48x128xf32>` -/
def val_main_v21 (x0 : (⟨S7x256x48x128, .bf16⟩ : BufTy).Contents (Elt F)) : (⟨S7x256x48x128, .f32⟩ : BufTy).Contents (Elt F) :=
  extf .f32 (x0) bitsLt_bf16_f32
/-- The value of `main_v21` at an index, from its operands' values. -/
theorem val_main_v21_apply (x0 : (⟨S7x256x48x128, .bf16⟩ : BufTy).Contents (Elt F)) (i : S7x256x48x128.Idx) :
    val_main_v21 (F := F) x0 i = FloatOps.extf .f32 bitsLt_bf16_f32 (x0 i) := rfl

/-- `%22 = stablehlo.slice %21 [0:7, 0:256, 0:48, 0:64] : (tensor<7x256x48x128xf32>) -> tensor<7x256x48x64xf32>` -/
def val_main_v22 (x0 : (⟨S7x256x48x128, .bf16⟩ : BufTy).Contents (Elt F)) : (⟨S7x256x48x64, .f32⟩ : BufTy).Contents (Elt F) :=
  extractStridedSlice S7x256x48x64 ![0, 0, 0, 0] (val_main_v21 (F := F) x0) slices_S7x256x48x128_S7x256x48x64_0_0_0_0
set_option backward.proofsInPublic true in
/-- Where `main_v22` reads its operand. -/
abbrev idx_main_v22 (i : S7x256x48x64.Idx) : S7x256x48x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h3 : (i 3).val < 64 := (i 3).isLt; show (i 3).val < 128; omega⟩
/-- The value of `main_v22` at an index, from its operands' values. -/
theorem val_main_v22_apply (x0 : (⟨S7x256x48x128, .bf16⟩ : BufTy).Contents (Elt F)) (i : S7x256x48x64.Idx) :
    val_main_v22 (F := F) x0 i = val_main_v21 (F := F) x0 (idx_main_v22 i) := by
  unfold val_main_v22
  generalize val_main_v21 (F := F) x0 = y
  exact extractStridedSlice_apply ![0, 0, 0, 0] y slices_S7x256x48x128_S7x256x48x64_0_0_0_0 i (idx_main_v22 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

/-- `%23 = stablehlo.slice %21 [0:7, 0:256, 0:48, 64:128] : (tensor<7x256x48x128xf32>) -> tensor<7x256x48x64xf32>` -/
def val_main_v23 (x0 : (⟨S7x256x48x128, .bf16⟩ : BufTy).Contents (Elt F)) : (⟨S7x256x48x64, .f32⟩ : BufTy).Contents (Elt F) :=
  extractStridedSlice S7x256x48x64 ![0, 0, 0, 64] (val_main_v21 (F := F) x0) slices_S7x256x48x128_S7x256x48x64_0_0_0_64
set_option backward.proofsInPublic true in
/-- Where `main_v23` reads its operand. -/
abbrev idx_main_v23 (i : S7x256x48x64.Idx) : S7x256x48x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨64 + (i 3).val, by have h3 : (i 3).val < 64 := (i 3).isLt; show 64 + (i 3).val < 128; omega⟩
/-- The value of `main_v23` at an index, from its operands' values. -/
theorem val_main_v23_apply (x0 : (⟨S7x256x48x128, .bf16⟩ : BufTy).Contents (Elt F)) (i : S7x256x48x64.Idx) :
    val_main_v23 (F := F) x0 i = val_main_v21 (F := F) x0 (idx_main_v23 i) := by
  unfold val_main_v23
  generalize val_main_v21 (F := F) x0 = y
  exact extractStridedSlice_apply ![0, 0, 0, 64] y slices_S7x256x48x128_S7x256x48x64_0_0_0_64 i (idx_main_v23 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 64 + (i 3).val = 64 + (i 3).val; omega)

/-- `%24 = stablehlo.broadcast_in_dim %18, dims = [0, 1, 2, 3] : (tensor<7x256x1x64xf32>) -> tensor<7x256x48x64xf32>` -/
def val_main_v24 (x3 : (⟨S7x256, .i32⟩ : BufTy).Contents (Elt F)) : (⟨S7x256x48x64, .f32⟩ : BufTy).Contents (Elt F) :=
  broadcastInDim S7x256x48x64 ![0, 1, 2, 3] bcast_S7x256x1x64_S7x256x48x64_0_1_2_3 (val_main_v18 (F := F) x3)
/-- Where `main_v24` reads its operand. -/
abbrev idx_main_v24 (i : S7x256x48x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v24` at an index, from its operands' values. -/
theorem val_main_v24_apply (x3 : (⟨S7x256, .i32⟩ : BufTy).Contents (Elt F)) (i : S7x256x48x64.Idx) :
    val_main_v24 (F := F) x3 i = val_main_v18 (F := F) x3 (idx_main_v24 i) := by
  unfold val_main_v24
  generalize val_main_v18 (F := F) x3 = y
  exact broadcastInDim_apply _ bcast_S7x256x1x64_S7x256x48x64_0_1_2_3 y i (idx_main_v24 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%25 = stablehlo.multiply %22, %24 : tensor<7x256x48x64xf32>` -/
def val_main_v25 (x0 : (⟨S7x256x48x128, .bf16⟩ : BufTy).Contents (Elt F)) (x3 : (⟨S7x256, .i32⟩ : BufTy).Contents (Elt F)) : (⟨S7x256x48x64, .f32⟩ : BufTy).Contents (Elt F) :=
  mulf (val_main_v22 (F := F) x0) (val_main_v24 (F := F) x3)
/-- The value of `main_v25` at an index, from its operands' values. -/
theorem val_main_v25_apply (x0 : (⟨S7x256x48x128, .bf16⟩ : BufTy).Contents (Elt F)) (x3 : (⟨S7x256, .i32⟩ : BufTy).Contents (Elt F)) (i : S7x256x48x64.Idx) :
    val_main_v25 (F := F) x0 x3 i = FloatOps.mulf (val_main_v22 (F := F) x0 i) (val_main_v24 (F := F) x3 i) := rfl

/-- `%26 = stablehlo.broadcast_in_dim %20, dims = [0, 1, 2, 3] : (tensor<7x256x1x64xf32>) -> tensor<7x256x48x64xf32>` -/
def val_main_v26 (x3 : (⟨S7x256, .i32⟩ : BufTy).Contents (Elt F)) : (⟨S7x256x48x64, .f32⟩ : BufTy).Contents (Elt F) :=
  broadcastInDim S7x256x48x64 ![0, 1, 2, 3] bcast_S7x256x1x64_S7x256x48x64_0_1_2_3 (val_main_v20 (F := F) x3)
/-- Where `main_v26` reads its operand. -/
abbrev idx_main_v26 (i : S7x256x48x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v26` at an index, from its operands' values. -/
theorem val_main_v26_apply (x3 : (⟨S7x256, .i32⟩ : BufTy).Contents (Elt F)) (i : S7x256x48x64.Idx) :
    val_main_v26 (F := F) x3 i = val_main_v20 (F := F) x3 (idx_main_v26 i) := by
  unfold val_main_v26
  generalize val_main_v20 (F := F) x3 = y
  exact broadcastInDim_apply _ bcast_S7x256x1x64_S7x256x48x64_0_1_2_3 y i (idx_main_v26 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%27 = stablehlo.multiply %23, %26 : tensor<7x256x48x64xf32>` -/
def val_main_v27 (x0 : (⟨S7x256x48x128, .bf16⟩ : BufTy).Contents (Elt F)) (x3 : (⟨S7x256, .i32⟩ : BufTy).Contents (Elt F)) : (⟨S7x256x48x64, .f32⟩ : BufTy).Contents (Elt F) :=
  mulf (val_main_v23 (F := F) x0) (val_main_v26 (F := F) x3)
/-- The value of `main_v27` at an index, from its operands' values. -/
theorem val_main_v27_apply (x0 : (⟨S7x256x48x128, .bf16⟩ : BufTy).Contents (Elt F)) (x3 : (⟨S7x256, .i32⟩ : BufTy).Contents (Elt F)) (i : S7x256x48x64.Idx) :
    val_main_v27 (F := F) x0 x3 i = FloatOps.mulf (val_main_v23 (F := F) x0 i) (val_main_v26 (F := F) x3 i) := rfl

/-- `%28 = stablehlo.add %25, %27 : tensor<7x256x48x64xf32>` -/
def val_main_v28 (x0 : (⟨S7x256x48x128, .bf16⟩ : BufTy).Contents (Elt F)) (x3 : (⟨S7x256, .i32⟩ : BufTy).Contents (Elt F)) : (⟨S7x256x48x64, .f32⟩ : BufTy).Contents (Elt F) :=
  addf (val_main_v25 (F := F) x0 x3) (val_main_v27 (F := F) x0 x3)
/-- The value of `main_v28` at an index, from its operands' values. -/
theorem val_main_v28_apply (x0 : (⟨S7x256x48x128, .bf16⟩ : BufTy).Contents (Elt F)) (x3 : (⟨S7x256, .i32⟩ : BufTy).Contents (Elt F)) (i : S7x256x48x64.Idx) :
    val_main_v28 (F := F) x0 x3 i = FloatOps.addf (val_main_v25 (F := F) x0 x3 i) (val_main_v27 (F := F) x0 x3 i) := rfl

/-- `%29 = stablehlo.broadcast_in_dim %18, dims = [0, 1, 2, 3] : (tensor<7x256x1x64xf32>) -> tensor<7x256x48x64xf32>` -/
def val_main_v29 (x3 : (⟨S7x256, .i32⟩ : BufTy).Contents (Elt F)) : (⟨S7x256x48x64, .f32⟩ : BufTy).Contents (Elt F) :=
  broadcastInDim S7x256x48x64 ![0, 1, 2, 3] bcast_S7x256x1x64_S7x256x48x64_0_1_2_3 (val_main_v18 (F := F) x3)
/-- Where `main_v29` reads its operand. -/
abbrev idx_main_v29 (i : S7x256x48x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v29` at an index, from its operands' values. -/
theorem val_main_v29_apply (x3 : (⟨S7x256, .i32⟩ : BufTy).Contents (Elt F)) (i : S7x256x48x64.Idx) :
    val_main_v29 (F := F) x3 i = val_main_v18 (F := F) x3 (idx_main_v29 i) := by
  unfold val_main_v29
  generalize val_main_v18 (F := F) x3 = y
  exact broadcastInDim_apply _ bcast_S7x256x1x64_S7x256x48x64_0_1_2_3 y i (idx_main_v29 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%30 = stablehlo.multiply %23, %29 : tensor<7x256x48x64xf32>` -/
def val_main_v30 (x0 : (⟨S7x256x48x128, .bf16⟩ : BufTy).Contents (Elt F)) (x3 : (⟨S7x256, .i32⟩ : BufTy).Contents (Elt F)) : (⟨S7x256x48x64, .f32⟩ : BufTy).Contents (Elt F) :=
  mulf (val_main_v23 (F := F) x0) (val_main_v29 (F := F) x3)
/-- The value of `main_v30` at an index, from its operands' values. -/
theorem val_main_v30_apply (x0 : (⟨S7x256x48x128, .bf16⟩ : BufTy).Contents (Elt F)) (x3 : (⟨S7x256, .i32⟩ : BufTy).Contents (Elt F)) (i : S7x256x48x64.Idx) :
    val_main_v30 (F := F) x0 x3 i = FloatOps.mulf (val_main_v23 (F := F) x0 i) (val_main_v29 (F := F) x3 i) := rfl

/-- `%31 = stablehlo.broadcast_in_dim %20, dims = [0, 1, 2, 3] : (tensor<7x256x1x64xf32>) -> tensor<7x256x48x64xf32>` -/
def val_main_v31 (x3 : (⟨S7x256, .i32⟩ : BufTy).Contents (Elt F)) : (⟨S7x256x48x64, .f32⟩ : BufTy).Contents (Elt F) :=
  broadcastInDim S7x256x48x64 ![0, 1, 2, 3] bcast_S7x256x1x64_S7x256x48x64_0_1_2_3 (val_main_v20 (F := F) x3)
/-- Where `main_v31` reads its operand. -/
abbrev idx_main_v31 (i : S7x256x48x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v31` at an index, from its operands' values. -/
theorem val_main_v31_apply (x3 : (⟨S7x256, .i32⟩ : BufTy).Contents (Elt F)) (i : S7x256x48x64.Idx) :
    val_main_v31 (F := F) x3 i = val_main_v20 (F := F) x3 (idx_main_v31 i) := by
  unfold val_main_v31
  generalize val_main_v20 (F := F) x3 = y
  exact broadcastInDim_apply _ bcast_S7x256x1x64_S7x256x48x64_0_1_2_3 y i (idx_main_v31 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%32 = stablehlo.multiply %22, %31 : tensor<7x256x48x64xf32>` -/
def val_main_v32 (x0 : (⟨S7x256x48x128, .bf16⟩ : BufTy).Contents (Elt F)) (x3 : (⟨S7x256, .i32⟩ : BufTy).Contents (Elt F)) : (⟨S7x256x48x64, .f32⟩ : BufTy).Contents (Elt F) :=
  mulf (val_main_v22 (F := F) x0) (val_main_v31 (F := F) x3)
/-- The value of `main_v32` at an index, from its operands' values. -/
theorem val_main_v32_apply (x0 : (⟨S7x256x48x128, .bf16⟩ : BufTy).Contents (Elt F)) (x3 : (⟨S7x256, .i32⟩ : BufTy).Contents (Elt F)) (i : S7x256x48x64.Idx) :
    val_main_v32 (F := F) x0 x3 i = FloatOps.mulf (val_main_v22 (F := F) x0 i) (val_main_v31 (F := F) x3 i) := rfl

/-- `%33 = stablehlo.subtract %30, %32 : tensor<7x256x48x64xf32>` -/
def val_main_v33 (x0 : (⟨S7x256x48x128, .bf16⟩ : BufTy).Contents (Elt F)) (x3 : (⟨S7x256, .i32⟩ : BufTy).Contents (Elt F)) : (⟨S7x256x48x64, .f32⟩ : BufTy).Contents (Elt F) :=
  subf (val_main_v30 (F := F) x0 x3) (val_main_v32 (F := F) x0 x3)
/-- The value of `main_v33` at an index, from its operands' values. -/
theorem val_main_v33_apply (x0 : (⟨S7x256x48x128, .bf16⟩ : BufTy).Contents (Elt F)) (x3 : (⟨S7x256, .i32⟩ : BufTy).Contents (Elt F)) (i : S7x256x48x64.Idx) :
    val_main_v33 (F := F) x0 x3 i = FloatOps.subf (val_main_v30 (F := F) x0 x3 i) (val_main_v32 (F := F) x0 x3 i) := rfl

/-- `%34 = stablehlo.concatenate %28, %33, dim = 3 : (tensor<7x256x48x64xf32>, tensor<7x256x48x64xf32>) -> tensor<7x256x48x128xf32>` -/
def val_main_v34 (x0 : (⟨S7x256x48x128, .bf16⟩ : BufTy).Contents (Elt F)) (x3 : (⟨S7x256, .i32⟩ : BufTy).Contents (Elt F)) : (⟨S7x256x48x128, .f32⟩ : BufTy).Contents (Elt F) :=
  concatenate S7x256x48x128 3 [⟨S7x256x48x64, (val_main_v28 (F := F) x0 x3)⟩, ⟨S7x256x48x64, (val_main_v33 (F := F) x0 x3)⟩] concatenates_S7x256x48x64_S7x256x48x64_S7x256x48x128_d3

/-- `%35 = stablehlo.reshape %34 : (tensor<7x256x48x128xf32>) -> tensor<7x256x6144xf32>` -/
def val_main_v35 (x0 : (⟨S7x256x48x128, .bf16⟩ : BufTy).Contents (Elt F)) (x3 : (⟨S7x256, .i32⟩ : BufTy).Contents (Elt F)) : (⟨S7x256x6144, .f32⟩ : BufTy).Contents (Elt F) :=
  shapeCast _ (val_main_v34 (F := F) x0 x3) shapeCasts_S7x256x48x128_S7x256x6144
set_option backward.proofsInPublic true in
/-- Where `main_v35` reads its operand. -/
abbrev idx_main_v35 (i : S7x256x6144.Idx) : S7x256x48x128.Idx := fun a => match a with
  | ⟨0, _⟩ => ⟨(((i 0).val * 256 + (i 1).val) * 6144 + (i 2).val) / 1572864, by have h0 : (i 0).val < 7 := (i 0).isLt; have h1 : (i 1).val < 256 := (i 1).isLt; have h2 : (i 2).val < 6144 := (i 2).isLt; show (((i 0).val * 256 + (i 1).val) * 6144 + (i 2).val) / 1572864 < 7; omega⟩
  | ⟨1, _⟩ => ⟨(((i 0).val * 256 + (i 1).val) * 6144 + (i 2).val) / 6144 % 256, by have h0 : (i 0).val < 7 := (i 0).isLt; have h1 : (i 1).val < 256 := (i 1).isLt; have h2 : (i 2).val < 6144 := (i 2).isLt; show (((i 0).val * 256 + (i 1).val) * 6144 + (i 2).val) / 6144 % 256 < 256; omega⟩
  | ⟨2, _⟩ => ⟨(((i 0).val * 256 + (i 1).val) * 6144 + (i 2).val) / 128 % 48, by have h0 : (i 0).val < 7 := (i 0).isLt; have h1 : (i 1).val < 256 := (i 1).isLt; have h2 : (i 2).val < 6144 := (i 2).isLt; show (((i 0).val * 256 + (i 1).val) * 6144 + (i 2).val) / 128 % 48 < 48; omega⟩
  | ⟨3, _⟩ => ⟨(((i 0).val * 256 + (i 1).val) * 6144 + (i 2).val) % 128, by have h0 : (i 0).val < 7 := (i 0).isLt; have h1 : (i 1).val < 256 := (i 1).isLt; have h2 : (i 2).val < 6144 := (i 2).isLt; show (((i 0).val * 256 + (i 1).val) * 6144 + (i 2).val) % 128 < 128; omega⟩
/-- The value of `main_v35` at an index, from its operands' values. -/
theorem val_main_v35_apply (x0 : (⟨S7x256x48x128, .bf16⟩ : BufTy).Contents (Elt F)) (x3 : (⟨S7x256, .i32⟩ : BufTy).Contents (Elt F)) (i : S7x256x6144.Idx) :
    val_main_v35 (F := F) x0 x3 i = val_main_v34 (F := F) x0 x3 (idx_main_v35 i) := by
  unfold val_main_v35
  generalize val_main_v34 (F := F) x0 x3 = y
  exact shapeCast_apply y shapeCasts_S7x256x48x128_S7x256x6144 i (idx_main_v35 i)
    (by rewrite [Shape.rowMajor_val_four, Shape.rowMajor_val_three]; have h0 : (i 0).val < 7 := (i 0).isLt; have h1 : (i 1).val < 256 := (i 1).isLt; have h2 : (i 2).val < 6144 := (i 2).isLt; show (((((i 0).val * 256 + (i 1).val) * 6144 + (i 2).val) / 1572864 * 256 + (((i 0).val * 256 + (i 1).val) * 6144 + (i 2).val) / 6144 % 256) * 48 + (((i 0).val * 256 + (i 1).val) * 6144 + (i 2).val) / 128 % 48) * 128 + (((i 0).val * 256 + (i 1).val) * 6144 + (i 2).val) % 128 = ((i 0).val * 256 + (i 1).val) * 6144 + (i 2).val; omega)

/-- `%36 = stablehlo.convert %arg1 : (tensor<7x256x8x128xbf16>) -> tensor<7x256x8x128xf32>` -/
def val_main_v36 (x1 : (⟨S7x256x8x128, .bf16⟩ : BufTy).Contents (Elt F)) : (⟨S7x256x8x128, .f32⟩ : BufTy).Contents (Elt F) :=
  extf .f32 (x1) bitsLt_bf16_f32
/-- The value of `main_v36` at an index, from its operands' values. -/
theorem val_main_v36_apply (x1 : (⟨S7x256x8x128, .bf16⟩ : BufTy).Contents (Elt F)) (i : S7x256x8x128.Idx) :
    val_main_v36 (F := F) x1 i = FloatOps.extf .f32 bitsLt_bf16_f32 (x1 i) := rfl

/-- `%37 = stablehlo.slice %36 [0:7, 0:256, 0:8, 0:64] : (tensor<7x256x8x128xf32>) -> tensor<7x256x8x64xf32>` -/
def val_main_v37 (x1 : (⟨S7x256x8x128, .bf16⟩ : BufTy).Contents (Elt F)) : (⟨S7x256x8x64, .f32⟩ : BufTy).Contents (Elt F) :=
  extractStridedSlice S7x256x8x64 ![0, 0, 0, 0] (val_main_v36 (F := F) x1) slices_S7x256x8x128_S7x256x8x64_0_0_0_0
set_option backward.proofsInPublic true in
/-- Where `main_v37` reads its operand. -/
abbrev idx_main_v37 (i : S7x256x8x64.Idx) : S7x256x8x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h3 : (i 3).val < 64 := (i 3).isLt; show (i 3).val < 128; omega⟩
/-- The value of `main_v37` at an index, from its operands' values. -/
theorem val_main_v37_apply (x1 : (⟨S7x256x8x128, .bf16⟩ : BufTy).Contents (Elt F)) (i : S7x256x8x64.Idx) :
    val_main_v37 (F := F) x1 i = val_main_v36 (F := F) x1 (idx_main_v37 i) := by
  unfold val_main_v37
  generalize val_main_v36 (F := F) x1 = y
  exact extractStridedSlice_apply ![0, 0, 0, 0] y slices_S7x256x8x128_S7x256x8x64_0_0_0_0 i (idx_main_v37 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

/-- `%38 = stablehlo.slice %36 [0:7, 0:256, 0:8, 64:128] : (tensor<7x256x8x128xf32>) -> tensor<7x256x8x64xf32>` -/
def val_main_v38 (x1 : (⟨S7x256x8x128, .bf16⟩ : BufTy).Contents (Elt F)) : (⟨S7x256x8x64, .f32⟩ : BufTy).Contents (Elt F) :=
  extractStridedSlice S7x256x8x64 ![0, 0, 0, 64] (val_main_v36 (F := F) x1) slices_S7x256x8x128_S7x256x8x64_0_0_0_64
set_option backward.proofsInPublic true in
/-- Where `main_v38` reads its operand. -/
abbrev idx_main_v38 (i : S7x256x8x64.Idx) : S7x256x8x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨64 + (i 3).val, by have h3 : (i 3).val < 64 := (i 3).isLt; show 64 + (i 3).val < 128; omega⟩
/-- The value of `main_v38` at an index, from its operands' values. -/
theorem val_main_v38_apply (x1 : (⟨S7x256x8x128, .bf16⟩ : BufTy).Contents (Elt F)) (i : S7x256x8x64.Idx) :
    val_main_v38 (F := F) x1 i = val_main_v36 (F := F) x1 (idx_main_v38 i) := by
  unfold val_main_v38
  generalize val_main_v36 (F := F) x1 = y
  exact extractStridedSlice_apply ![0, 0, 0, 64] y slices_S7x256x8x128_S7x256x8x64_0_0_0_64 i (idx_main_v38 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 64 + (i 3).val = 64 + (i 3).val; omega)

/-- `%39 = stablehlo.broadcast_in_dim %18, dims = [0, 1, 2, 3] : (tensor<7x256x1x64xf32>) -> tensor<7x256x8x64xf32>` -/
def val_main_v39 (x3 : (⟨S7x256, .i32⟩ : BufTy).Contents (Elt F)) : (⟨S7x256x8x64, .f32⟩ : BufTy).Contents (Elt F) :=
  broadcastInDim S7x256x8x64 ![0, 1, 2, 3] bcast_S7x256x1x64_S7x256x8x64_0_1_2_3 (val_main_v18 (F := F) x3)
/-- Where `main_v39` reads its operand. -/
abbrev idx_main_v39 (i : S7x256x8x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v39` at an index, from its operands' values. -/
theorem val_main_v39_apply (x3 : (⟨S7x256, .i32⟩ : BufTy).Contents (Elt F)) (i : S7x256x8x64.Idx) :
    val_main_v39 (F := F) x3 i = val_main_v18 (F := F) x3 (idx_main_v39 i) := by
  unfold val_main_v39
  generalize val_main_v18 (F := F) x3 = y
  exact broadcastInDim_apply _ bcast_S7x256x1x64_S7x256x8x64_0_1_2_3 y i (idx_main_v39 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%40 = stablehlo.multiply %37, %39 : tensor<7x256x8x64xf32>` -/
def val_main_v40 (x1 : (⟨S7x256x8x128, .bf16⟩ : BufTy).Contents (Elt F)) (x3 : (⟨S7x256, .i32⟩ : BufTy).Contents (Elt F)) : (⟨S7x256x8x64, .f32⟩ : BufTy).Contents (Elt F) :=
  mulf (val_main_v37 (F := F) x1) (val_main_v39 (F := F) x3)
/-- The value of `main_v40` at an index, from its operands' values. -/
theorem val_main_v40_apply (x1 : (⟨S7x256x8x128, .bf16⟩ : BufTy).Contents (Elt F)) (x3 : (⟨S7x256, .i32⟩ : BufTy).Contents (Elt F)) (i : S7x256x8x64.Idx) :
    val_main_v40 (F := F) x1 x3 i = FloatOps.mulf (val_main_v37 (F := F) x1 i) (val_main_v39 (F := F) x3 i) := rfl

/-- `%41 = stablehlo.broadcast_in_dim %20, dims = [0, 1, 2, 3] : (tensor<7x256x1x64xf32>) -> tensor<7x256x8x64xf32>` -/
def val_main_v41 (x3 : (⟨S7x256, .i32⟩ : BufTy).Contents (Elt F)) : (⟨S7x256x8x64, .f32⟩ : BufTy).Contents (Elt F) :=
  broadcastInDim S7x256x8x64 ![0, 1, 2, 3] bcast_S7x256x1x64_S7x256x8x64_0_1_2_3 (val_main_v20 (F := F) x3)
/-- Where `main_v41` reads its operand. -/
abbrev idx_main_v41 (i : S7x256x8x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v41` at an index, from its operands' values. -/
theorem val_main_v41_apply (x3 : (⟨S7x256, .i32⟩ : BufTy).Contents (Elt F)) (i : S7x256x8x64.Idx) :
    val_main_v41 (F := F) x3 i = val_main_v20 (F := F) x3 (idx_main_v41 i) := by
  unfold val_main_v41
  generalize val_main_v20 (F := F) x3 = y
  exact broadcastInDim_apply _ bcast_S7x256x1x64_S7x256x8x64_0_1_2_3 y i (idx_main_v41 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%42 = stablehlo.multiply %38, %41 : tensor<7x256x8x64xf32>` -/
def val_main_v42 (x1 : (⟨S7x256x8x128, .bf16⟩ : BufTy).Contents (Elt F)) (x3 : (⟨S7x256, .i32⟩ : BufTy).Contents (Elt F)) : (⟨S7x256x8x64, .f32⟩ : BufTy).Contents (Elt F) :=
  mulf (val_main_v38 (F := F) x1) (val_main_v41 (F := F) x3)
/-- The value of `main_v42` at an index, from its operands' values. -/
theorem val_main_v42_apply (x1 : (⟨S7x256x8x128, .bf16⟩ : BufTy).Contents (Elt F)) (x3 : (⟨S7x256, .i32⟩ : BufTy).Contents (Elt F)) (i : S7x256x8x64.Idx) :
    val_main_v42 (F := F) x1 x3 i = FloatOps.mulf (val_main_v38 (F := F) x1 i) (val_main_v41 (F := F) x3 i) := rfl

/-- `%43 = stablehlo.add %40, %42 : tensor<7x256x8x64xf32>` -/
def val_main_v43 (x1 : (⟨S7x256x8x128, .bf16⟩ : BufTy).Contents (Elt F)) (x3 : (⟨S7x256, .i32⟩ : BufTy).Contents (Elt F)) : (⟨S7x256x8x64, .f32⟩ : BufTy).Contents (Elt F) :=
  addf (val_main_v40 (F := F) x1 x3) (val_main_v42 (F := F) x1 x3)
/-- The value of `main_v43` at an index, from its operands' values. -/
theorem val_main_v43_apply (x1 : (⟨S7x256x8x128, .bf16⟩ : BufTy).Contents (Elt F)) (x3 : (⟨S7x256, .i32⟩ : BufTy).Contents (Elt F)) (i : S7x256x8x64.Idx) :
    val_main_v43 (F := F) x1 x3 i = FloatOps.addf (val_main_v40 (F := F) x1 x3 i) (val_main_v42 (F := F) x1 x3 i) := rfl

/-- `%44 = stablehlo.broadcast_in_dim %18, dims = [0, 1, 2, 3] : (tensor<7x256x1x64xf32>) -> tensor<7x256x8x64xf32>` -/
def val_main_v44 (x3 : (⟨S7x256, .i32⟩ : BufTy).Contents (Elt F)) : (⟨S7x256x8x64, .f32⟩ : BufTy).Contents (Elt F) :=
  broadcastInDim S7x256x8x64 ![0, 1, 2, 3] bcast_S7x256x1x64_S7x256x8x64_0_1_2_3 (val_main_v18 (F := F) x3)
/-- Where `main_v44` reads its operand. -/
abbrev idx_main_v44 (i : S7x256x8x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v44` at an index, from its operands' values. -/
theorem val_main_v44_apply (x3 : (⟨S7x256, .i32⟩ : BufTy).Contents (Elt F)) (i : S7x256x8x64.Idx) :
    val_main_v44 (F := F) x3 i = val_main_v18 (F := F) x3 (idx_main_v44 i) := by
  unfold val_main_v44
  generalize val_main_v18 (F := F) x3 = y
  exact broadcastInDim_apply _ bcast_S7x256x1x64_S7x256x8x64_0_1_2_3 y i (idx_main_v44 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%45 = stablehlo.multiply %38, %44 : tensor<7x256x8x64xf32>` -/
def val_main_v45 (x1 : (⟨S7x256x8x128, .bf16⟩ : BufTy).Contents (Elt F)) (x3 : (⟨S7x256, .i32⟩ : BufTy).Contents (Elt F)) : (⟨S7x256x8x64, .f32⟩ : BufTy).Contents (Elt F) :=
  mulf (val_main_v38 (F := F) x1) (val_main_v44 (F := F) x3)
/-- The value of `main_v45` at an index, from its operands' values. -/
theorem val_main_v45_apply (x1 : (⟨S7x256x8x128, .bf16⟩ : BufTy).Contents (Elt F)) (x3 : (⟨S7x256, .i32⟩ : BufTy).Contents (Elt F)) (i : S7x256x8x64.Idx) :
    val_main_v45 (F := F) x1 x3 i = FloatOps.mulf (val_main_v38 (F := F) x1 i) (val_main_v44 (F := F) x3 i) := rfl

/-- `%46 = stablehlo.broadcast_in_dim %20, dims = [0, 1, 2, 3] : (tensor<7x256x1x64xf32>) -> tensor<7x256x8x64xf32>` -/
def val_main_v46 (x3 : (⟨S7x256, .i32⟩ : BufTy).Contents (Elt F)) : (⟨S7x256x8x64, .f32⟩ : BufTy).Contents (Elt F) :=
  broadcastInDim S7x256x8x64 ![0, 1, 2, 3] bcast_S7x256x1x64_S7x256x8x64_0_1_2_3 (val_main_v20 (F := F) x3)
/-- Where `main_v46` reads its operand. -/
abbrev idx_main_v46 (i : S7x256x8x64.Idx) : S7x256x1x64.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
/-- The value of `main_v46` at an index, from its operands' values. -/
theorem val_main_v46_apply (x3 : (⟨S7x256, .i32⟩ : BufTy).Contents (Elt F)) (i : S7x256x8x64.Idx) :
    val_main_v46 (F := F) x3 i = val_main_v20 (F := F) x3 (idx_main_v46 i) := by
  unfold val_main_v46
  generalize val_main_v20 (F := F) x3 = y
  exact broadcastInDim_apply _ bcast_S7x256x1x64_S7x256x8x64_0_1_2_3 y i (idx_main_v46 i) (fun a => match a with
    | ⟨0, _⟩ => by show (i 0).val = if (7 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])

/-- `%47 = stablehlo.multiply %37, %46 : tensor<7x256x8x64xf32>` -/
def val_main_v47 (x1 : (⟨S7x256x8x128, .bf16⟩ : BufTy).Contents (Elt F)) (x3 : (⟨S7x256, .i32⟩ : BufTy).Contents (Elt F)) : (⟨S7x256x8x64, .f32⟩ : BufTy).Contents (Elt F) :=
  mulf (val_main_v37 (F := F) x1) (val_main_v46 (F := F) x3)
/-- The value of `main_v47` at an index, from its operands' values. -/
theorem val_main_v47_apply (x1 : (⟨S7x256x8x128, .bf16⟩ : BufTy).Contents (Elt F)) (x3 : (⟨S7x256, .i32⟩ : BufTy).Contents (Elt F)) (i : S7x256x8x64.Idx) :
    val_main_v47 (F := F) x1 x3 i = FloatOps.mulf (val_main_v37 (F := F) x1 i) (val_main_v46 (F := F) x3 i) := rfl

/-- `%48 = stablehlo.subtract %45, %47 : tensor<7x256x8x64xf32>` -/
def val_main_v48 (x1 : (⟨S7x256x8x128, .bf16⟩ : BufTy).Contents (Elt F)) (x3 : (⟨S7x256, .i32⟩ : BufTy).Contents (Elt F)) : (⟨S7x256x8x64, .f32⟩ : BufTy).Contents (Elt F) :=
  subf (val_main_v45 (F := F) x1 x3) (val_main_v47 (F := F) x1 x3)
/-- The value of `main_v48` at an index, from its operands' values. -/
theorem val_main_v48_apply (x1 : (⟨S7x256x8x128, .bf16⟩ : BufTy).Contents (Elt F)) (x3 : (⟨S7x256, .i32⟩ : BufTy).Contents (Elt F)) (i : S7x256x8x64.Idx) :
    val_main_v48 (F := F) x1 x3 i = FloatOps.subf (val_main_v45 (F := F) x1 x3 i) (val_main_v47 (F := F) x1 x3 i) := rfl

/-- `%49 = stablehlo.concatenate %43, %48, dim = 3 : (tensor<7x256x8x64xf32>, tensor<7x256x8x64xf32>) -> tensor<7x256x8x128xf32>` -/
def val_main_v49 (x1 : (⟨S7x256x8x128, .bf16⟩ : BufTy).Contents (Elt F)) (x3 : (⟨S7x256, .i32⟩ : BufTy).Contents (Elt F)) : (⟨S7x256x8x128, .f32⟩ : BufTy).Contents (Elt F) :=
  concatenate S7x256x8x128 3 [⟨S7x256x8x64, (val_main_v43 (F := F) x1 x3)⟩, ⟨S7x256x8x64, (val_main_v48 (F := F) x1 x3)⟩] concatenates_S7x256x8x64_S7x256x8x64_S7x256x8x128_d3

/-- `%50 = stablehlo.reshape %49 : (tensor<7x256x8x128xf32>) -> tensor<7x256x1024xf32>` -/
def val_main_v50 (x1 : (⟨S7x256x8x128, .bf16⟩ : BufTy).Contents (Elt F)) (x3 : (⟨S7x256, .i32⟩ : BufTy).Contents (Elt F)) : (⟨S7x256x1024, .f32⟩ : BufTy).Contents (Elt F) :=
  shapeCast _ (val_main_v49 (F := F) x1 x3) shapeCasts_S7x256x8x128_S7x256x1024
set_option backward.proofsInPublic true in
/-- Where `main_v50` reads its operand. -/
abbrev idx_main_v50 (i : S7x256x1024.Idx) : S7x256x8x128.Idx := fun a => match a with
  | ⟨0, _⟩ => ⟨(((i 0).val * 256 + (i 1).val) * 1024 + (i 2).val) / 262144, by have h0 : (i 0).val < 7 := (i 0).isLt; have h1 : (i 1).val < 256 := (i 1).isLt; have h2 : (i 2).val < 1024 := (i 2).isLt; show (((i 0).val * 256 + (i 1).val) * 1024 + (i 2).val) / 262144 < 7; omega⟩
  | ⟨1, _⟩ => ⟨(((i 0).val * 256 + (i 1).val) * 1024 + (i 2).val) / 1024 % 256, by have h0 : (i 0).val < 7 := (i 0).isLt; have h1 : (i 1).val < 256 := (i 1).isLt; have h2 : (i 2).val < 1024 := (i 2).isLt; show (((i 0).val * 256 + (i 1).val) * 1024 + (i 2).val) / 1024 % 256 < 256; omega⟩
  | ⟨2, _⟩ => ⟨(((i 0).val * 256 + (i 1).val) * 1024 + (i 2).val) / 128 % 8, by have h0 : (i 0).val < 7 := (i 0).isLt; have h1 : (i 1).val < 256 := (i 1).isLt; have h2 : (i 2).val < 1024 := (i 2).isLt; show (((i 0).val * 256 + (i 1).val) * 1024 + (i 2).val) / 128 % 8 < 8; omega⟩
  | ⟨3, _⟩ => ⟨(((i 0).val * 256 + (i 1).val) * 1024 + (i 2).val) % 128, by have h0 : (i 0).val < 7 := (i 0).isLt; have h1 : (i 1).val < 256 := (i 1).isLt; have h2 : (i 2).val < 1024 := (i 2).isLt; show (((i 0).val * 256 + (i 1).val) * 1024 + (i 2).val) % 128 < 128; omega⟩
/-- The value of `main_v50` at an index, from its operands' values. -/
theorem val_main_v50_apply (x1 : (⟨S7x256x8x128, .bf16⟩ : BufTy).Contents (Elt F)) (x3 : (⟨S7x256, .i32⟩ : BufTy).Contents (Elt F)) (i : S7x256x1024.Idx) :
    val_main_v50 (F := F) x1 x3 i = val_main_v49 (F := F) x1 x3 (idx_main_v50 i) := by
  unfold val_main_v50
  generalize val_main_v49 (F := F) x1 x3 = y
  exact shapeCast_apply y shapeCasts_S7x256x8x128_S7x256x1024 i (idx_main_v50 i)
    (by rewrite [Shape.rowMajor_val_four, Shape.rowMajor_val_three]; have h0 : (i 0).val < 7 := (i 0).isLt; have h1 : (i 1).val < 256 := (i 1).isLt; have h2 : (i 2).val < 1024 := (i 2).isLt; show (((((i 0).val * 256 + (i 1).val) * 1024 + (i 2).val) / 262144 * 256 + (((i 0).val * 256 + (i 1).val) * 1024 + (i 2).val) / 1024 % 256) * 8 + (((i 0).val * 256 + (i 1).val) * 1024 + (i 2).val) / 128 % 8) * 128 + (((i 0).val * 256 + (i 1).val) * 1024 + (i 2).val) % 128 = ((i 0).val * 256 + (i 1).val) * 1024 + (i 2).val; omega)

/-- `%51 = stablehlo.convert %arg2 : (tensor<7x256x8x128xbf16>) -> tensor<7x256x8x128xf32>` -/
def val_main_v51 (x2 : (⟨S7x256x8x128, .bf16⟩ : BufTy).Contents (Elt F)) : (⟨S7x256x8x128, .f32⟩ : BufTy).Contents (Elt F) :=
  extf .f32 (x2) bitsLt_bf16_f32
/-- The value of `main_v51` at an index, from its operands' values. -/
theorem val_main_v51_apply (x2 : (⟨S7x256x8x128, .bf16⟩ : BufTy).Contents (Elt F)) (i : S7x256x8x128.Idx) :
    val_main_v51 (F := F) x2 i = FloatOps.extf .f32 bitsLt_bf16_f32 (x2 i) := rfl

/-- `%52 = stablehlo.reshape %51 : (tensor<7x256x8x128xf32>) -> tensor<7x256x1024xf32>` -/
def val_main_v52 (x2 : (⟨S7x256x8x128, .bf16⟩ : BufTy).Contents (Elt F)) : (⟨S7x256x1024, .f32⟩ : BufTy).Contents (Elt F) :=
  shapeCast _ (val_main_v51 (F := F) x2) shapeCasts_S7x256x8x128_S7x256x1024
set_option backward.proofsInPublic true in
/-- Where `main_v52` reads its operand. -/
abbrev idx_main_v52 (i : S7x256x1024.Idx) : S7x256x8x128.Idx := fun a => match a with
  | ⟨0, _⟩ => ⟨(((i 0).val * 256 + (i 1).val) * 1024 + (i 2).val) / 262144, by have h0 : (i 0).val < 7 := (i 0).isLt; have h1 : (i 1).val < 256 := (i 1).isLt; have h2 : (i 2).val < 1024 := (i 2).isLt; show (((i 0).val * 256 + (i 1).val) * 1024 + (i 2).val) / 262144 < 7; omega⟩
  | ⟨1, _⟩ => ⟨(((i 0).val * 256 + (i 1).val) * 1024 + (i 2).val) / 1024 % 256, by have h0 : (i 0).val < 7 := (i 0).isLt; have h1 : (i 1).val < 256 := (i 1).isLt; have h2 : (i 2).val < 1024 := (i 2).isLt; show (((i 0).val * 256 + (i 1).val) * 1024 + (i 2).val) / 1024 % 256 < 256; omega⟩
  | ⟨2, _⟩ => ⟨(((i 0).val * 256 + (i 1).val) * 1024 + (i 2).val) / 128 % 8, by have h0 : (i 0).val < 7 := (i 0).isLt; have h1 : (i 1).val < 256 := (i 1).isLt; have h2 : (i 2).val < 1024 := (i 2).isLt; show (((i 0).val * 256 + (i 1).val) * 1024 + (i 2).val) / 128 % 8 < 8; omega⟩
  | ⟨3, _⟩ => ⟨(((i 0).val * 256 + (i 1).val) * 1024 + (i 2).val) % 128, by have h0 : (i 0).val < 7 := (i 0).isLt; have h1 : (i 1).val < 256 := (i 1).isLt; have h2 : (i 2).val < 1024 := (i 2).isLt; show (((i 0).val * 256 + (i 1).val) * 1024 + (i 2).val) % 128 < 128; omega⟩
/-- The value of `main_v52` at an index, from its operands' values. -/
theorem val_main_v52_apply (x2 : (⟨S7x256x8x128, .bf16⟩ : BufTy).Contents (Elt F)) (i : S7x256x1024.Idx) :
    val_main_v52 (F := F) x2 i = val_main_v51 (F := F) x2 (idx_main_v52 i) := by
  unfold val_main_v52
  generalize val_main_v51 (F := F) x2 = y
  exact shapeCast_apply y shapeCasts_S7x256x8x128_S7x256x1024 i (idx_main_v52 i)
    (by rewrite [Shape.rowMajor_val_four, Shape.rowMajor_val_three]; have h0 : (i 0).val < 7 := (i 0).isLt; have h1 : (i 1).val < 256 := (i 1).isLt; have h2 : (i 2).val < 1024 := (i 2).isLt; show (((((i 0).val * 256 + (i 1).val) * 1024 + (i 2).val) / 262144 * 256 + (((i 0).val * 256 + (i 1).val) * 1024 + (i 2).val) / 1024 % 256) * 8 + (((i 0).val * 256 + (i 1).val) * 1024 + (i 2).val) / 128 % 8) * 128 + (((i 0).val * 256 + (i 1).val) * 1024 + (i 2).val) % 128 = ((i 0).val * 256 + (i 1).val) * 1024 + (i 2).val; omega)

/-- `%53 = stablehlo.concatenate %35, %50, %52, dim = 2 : (tensor<7x256x6144xf32>, tensor<7x256x1024xf32>, tensor<7x256x1024xf32>) -> tensor<7x256x8192xf32>` -/
def val_main_v53 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) : (⟨S7x256x8192, .f32⟩ : BufTy).Contents (Elt F) :=
  (concatenate S7x256x8192 2 [⟨S7x256x6144, ((val_main_v35 (F := F) x0 x3) : (⟨S7x256x6144, .f32⟩ : BufTy).Contents (Elt F))⟩, ⟨S7x256x1024, ((val_main_v50 (F := F) x1 x3) : (⟨S7x256x1024, .f32⟩ : BufTy).Contents (Elt F))⟩, ⟨S7x256x1024, ((val_main_v52 (F := F) x2) : (⟨S7x256x1024, .f32⟩ : BufTy).Contents (Elt F))⟩] concatenates_S7x256x6144_S7x256x1024_S7x256x1024_S7x256x8192_d2 : (⟨S7x256x8192, .f32⟩ : BufTy).Contents (Elt F))

/-- `%cst_4 = stablehlo.constant dense<0xFF800000> : tensor<f32>` -/
def val_main_cst_4 : (⟨S_, .f32⟩ : BufTy).Contents (Elt F) :=
  constant S_ .f32 0xFF800000#32
/-- The value of `main_cst_4` at an index, from its operands' values. -/
theorem val_main_cst_4_apply (i : S_.Idx) :
    val_main_cst_4 (F := F) i = FloatOps.ofBits .f32 0xFF800000#32 := rfl

/-- `%54 = stablehlo.reduce(%arg4 init: %cst_4) applies stablehlo.maximum across dimensions = [0] : (tensor<16xf32>, tensor<f32>) -> tensor<f32> {` -/
def val_main_v54 (x4 : (⟨S16, .f32⟩ : BufTy).Contents (Elt F)) : (⟨S_, .f32⟩ : BufTy).Contents (Elt F) :=
  Host.reduce FloatOps.maximumf (x4) (val_main_cst_4 (F := F)) reducesTo_S16_S_d0 h_S_

/-- `%cst_5 = stablehlo.constant dense<1.74386169E-5> : tensor<f32>` -/
def val_main_cst_5 : (⟨S_, .f32⟩ : BufTy).Contents (Elt F) :=
  constant S_ .f32 0x37924925#32
/-- The value of `main_cst_5` at an index, from its operands' values. -/
theorem val_main_cst_5_apply (i : S_.Idx) :
    val_main_cst_5 (F := F) i = FloatOps.ofBits .f32 0x37924925#32 := rfl

/-- `%55 = stablehlo.multiply %54, %cst_5 : tensor<f32>` -/
def val_main_v55 (x4 : (⟨S16, .f32⟩ : BufTy).Contents (Elt F)) : (⟨S_, .f32⟩ : BufTy).Contents (Elt F) :=
  mulf (val_main_v54 (F := F) x4) (val_main_cst_5 (F := F))
/-- The value of `main_v55` at an index, from its operands' values. -/
theorem val_main_v55_apply (x4 : (⟨S16, .f32⟩ : BufTy).Contents (Elt F)) (i : S_.Idx) :
    val_main_v55 (F := F) x4 i = FloatOps.mulf (val_main_v54 (F := F) x4 i) (val_main_cst_5 (F := F) i) := rfl

/-- `%56 = stablehlo.abs %55 : tensor<f32>` -/
def val_main_v56 (x4 : (⟨S16, .f32⟩ : BufTy).Contents (Elt F)) : (⟨S_, .f32⟩ : BufTy).Contents (Elt F) :=
  Host.absf (val_main_v55 (F := F) x4)
/-- The value of `main_v56` at an index, from its operands' values. -/
theorem val_main_v56_apply (x4 : (⟨S16, .f32⟩ : BufTy).Contents (Elt F)) (i : S_.Idx) :
    val_main_v56 (F := F) x4 i = FloatOps.hostAbsf (val_main_v55 (F := F) x4 i) := rfl

/-- `%57 = stablehlo.log %56 : tensor<f32>` -/
def val_main_v57 (x4 : (⟨S16, .f32⟩ : BufTy).Contents (Elt F)) : (⟨S_, .f32⟩ : BufTy).Contents (Elt F) :=
  Host.log (val_main_v56 (F := F) x4)
/-- The value of `main_v57` at an index, from its operands' values. -/
theorem val_main_v57_apply (x4 : (⟨S16, .f32⟩ : BufTy).Contents (Elt F)) (i : S_.Idx) :
    val_main_v57 (F := F) x4 i = FloatOps.hostUnary .log (val_main_v56 (F := F) x4 i) := rfl

/-- `%cst_6 = stablehlo.constant dense<2.000000e+00> : tensor<f32>` -/
def val_main_cst_6 : (⟨S_, .f32⟩ : BufTy).Contents (Elt F) :=
  constant S_ .f32 0x40000000#32
/-- The value of `main_cst_6` at an index, from its operands' values. -/
theorem val_main_cst_6_apply (i : S_.Idx) :
    val_main_cst_6 (F := F) i = FloatOps.ofBits .f32 0x40000000#32 := rfl

/-- `%58 = stablehlo.log %cst_6 : tensor<f32>` -/
def val_main_v58 : (⟨S_, .f32⟩ : BufTy).Contents (Elt F) :=
  Host.log (val_main_cst_6 (F := F))
/-- The value of `main_v58` at an index, from its operands' values. -/
theorem val_main_v58_apply (i : S_.Idx) :
    val_main_v58 (F := F) i = FloatOps.hostUnary .log (val_main_cst_6 (F := F) i) := rfl

/-- `%59 = stablehlo.convert %58 : tensor<f32>` -/
def val_main_v59 : (⟨S_, .f32⟩ : BufTy).Contents (Elt F) :=
  id (val_main_v58 (F := F))
/-- The value of `main_v59` at an index, from its operands' values. -/
theorem val_main_v59_apply (i : S_.Idx) :
    val_main_v59 (F := F) i = (val_main_v58 (F := F) i) := rfl

/-- `%60 = stablehlo.divide %57, %59 : tensor<f32>` -/
def val_main_v60 (x4 : (⟨S16, .f32⟩ : BufTy).Contents (Elt F)) : (⟨S_, .f32⟩ : BufTy).Contents (Elt F) :=
  Host.divf (val_main_v57 (F := F) x4) (val_main_v59 (F := F))
/-- The value of `main_v60` at an index, from its operands' values. -/
theorem val_main_v60_apply (x4 : (⟨S16, .f32⟩ : BufTy).Contents (Elt F)) (i : S_.Idx) :
    val_main_v60 (F := F) x4 i = FloatOps.hostDivf (val_main_v57 (F := F) x4 i) (val_main_v59 (F := F) i) := rfl

/-- `%61 = stablehlo.floor %60 : tensor<f32>` -/
def val_main_v61 (x4 : (⟨S16, .f32⟩ : BufTy).Contents (Elt F)) : (⟨S_, .f32⟩ : BufTy).Contents (Elt F) :=
  Host.floor (val_main_v60 (F := F) x4)
/-- The value of `main_v61` at an index, from its operands' values. -/
theorem val_main_v61_apply (x4 : (⟨S16, .f32⟩ : BufTy).Contents (Elt F)) (i : S_.Idx) :
    val_main_v61 (F := F) x4 i = FloatOps.hostUnary .floor (val_main_v60 (F := F) x4 i) := rfl

/-- `%cst_7 = stablehlo.constant dense<1.000000e+00> : tensor<f32>` -/
def val_main_cst_7 : (⟨S_, .f32⟩ : BufTy).Contents (Elt F) :=
  constant S_ .f32 0x3F800000#32
/-- The value of `main_cst_7` at an index, from its operands' values. -/
theorem val_main_cst_7_apply (i : S_.Idx) :
    val_main_cst_7 (F := F) i = FloatOps.ofBits .f32 0x3F800000#32 := rfl

/-- `%62 = stablehlo.add %61, %cst_7 : tensor<f32>` -/
def val_main_v62 (x4 : (⟨S16, .f32⟩ : BufTy).Contents (Elt F)) : (⟨S_, .f32⟩ : BufTy).Contents (Elt F) :=
  addf (val_main_v61 (F := F) x4) (val_main_cst_7 (F := F))
/-- The value of `main_v62` at an index, from its operands' values. -/
theorem val_main_v62_apply (x4 : (⟨S16, .f32⟩ : BufTy).Contents (Elt F)) (i : S_.Idx) :
    val_main_v62 (F := F) x4 i = FloatOps.addf (val_main_v61 (F := F) x4 i) (val_main_cst_7 (F := F) i) := rfl

/-- `%cst_8 = stablehlo.constant dense<-1.250000e+02> : tensor<f32>` -/
def val_main_cst_8 : (⟨S_, .f32⟩ : BufTy).Contents (Elt F) :=
  constant S_ .f32 0xC2FA0000#32
/-- The value of `main_cst_8` at an index, from its operands' values. -/
theorem val_main_cst_8_apply (i : S_.Idx) :
    val_main_cst_8 (F := F) i = FloatOps.ofBits .f32 0xC2FA0000#32 := rfl

/-- `%63 = stablehlo.compare GE, %62, %cst_8, FLOAT : (tensor<f32>, tensor<f32>) -> tensor<i1>` -/
def val_main_v63 (x4 : (⟨S16, .f32⟩ : BufTy).Contents (Elt F)) : (⟨S_, .i1⟩ : BufTy).Contents (Elt F) :=
  cmpf .oge (val_main_v62 (F := F) x4) (val_main_cst_8 (F := F))
/-- The value of `main_v63` at an index, from its operands' values. -/
theorem val_main_v63_apply (x4 : (⟨S16, .f32⟩ : BufTy).Contents (Elt F)) (i : S_.Idx) :
    val_main_v63 (F := F) x4 i = FloatOps.cmpf .oge (val_main_v62 (F := F) x4 i) (val_main_cst_8 (F := F) i) := rfl

/-- `%cst_9 = stablehlo.constant dense<1.280000e+02> : tensor<f32>` -/
def val_main_cst_9 : (⟨S_, .f32⟩ : BufTy).Contents (Elt F) :=
  constant S_ .f32 0x43000000#32
/-- The value of `main_cst_9` at an index, from its operands' values. -/
theorem val_main_cst_9_apply (i : S_.Idx) :
    val_main_cst_9 (F := F) i = FloatOps.ofBits .f32 0x43000000#32 := rfl

/-- `%64 = stablehlo.compare LE, %62, %cst_9, FLOAT : (tensor<f32>, tensor<f32>) -> tensor<i1>` -/
def val_main_v64 (x4 : (⟨S16, .f32⟩ : BufTy).Contents (Elt F)) : (⟨S_, .i1⟩ : BufTy).Contents (Elt F) :=
  cmpf .ole (val_main_v62 (F := F) x4) (val_main_cst_9 (F := F))
/-- The value of `main_v64` at an index, from its operands' values. -/
theorem val_main_v64_apply (x4 : (⟨S16, .f32⟩ : BufTy).Contents (Elt F)) (i : S_.Idx) :
    val_main_v64 (F := F) x4 i = FloatOps.cmpf .ole (val_main_v62 (F := F) x4 i) (val_main_cst_9 (F := F) i) := rfl

/-- `%65 = stablehlo.and %63, %64 : tensor<i1>` -/
def val_main_v65 (x4 : (⟨S16, .f32⟩ : BufTy).Contents (Elt F)) : (⟨S_, .i1⟩ : BufTy).Contents (Elt F) :=
  andi (val_main_v63 (F := F) x4) (val_main_v64 (F := F) x4)
/-- The value of `main_v65` at an index, from its operands' values. -/
theorem val_main_v65_apply (x4 : (⟨S16, .f32⟩ : BufTy).Contents (Elt F)) (i : S_.Idx) :
    val_main_v65 (F := F) x4 i = IntOp.andi (val_main_v63 (F := F) x4 i) (val_main_v64 (F := F) x4 i) := rfl

/-- `%cst_10 = stablehlo.constant dense<0.000000e+00> : tensor<f32>` -/
def val_main_cst_10 : (⟨S_, .f32⟩ : BufTy).Contents (Elt F) :=
  constant S_ .f32 0x00000000#32
/-- The value of `main_cst_10` at an index, from its operands' values. -/
theorem val_main_cst_10_apply (i : S_.Idx) :
    val_main_cst_10 (F := F) i = FloatOps.ofBits .f32 0x00000000#32 := rfl

-- @_where's %0 = stablehlo.convert %arg2 : tensor<f32>, in %66 = func.call @_where(…) (record main_call0)
def val_main_call0_v0 : (⟨S_, .f32⟩ : BufTy).Contents (Elt F) :=
  id (val_main_cst_10 (F := F))
/-- The value of `main_call0_v0` at an index, from its operands' values. -/
theorem val_main_call0_v0_apply (i : S_.Idx) :
    val_main_call0_v0 (F := F) i = (val_main_cst_10 (F := F) i) := rfl

/-- `%66 = func.call @_where(…) (record main_call0) result 0: @_where's %1 = stablehlo.select %arg0, %arg1, %0 : tensor<i1>, tensor<f32>` -/
def val_main_v66 (x4 : (⟨S16, .f32⟩ : BufTy).Contents (Elt F)) : (⟨S_, .f32⟩ : BufTy).Contents (Elt F) :=
  select (val_main_v65 (F := F) x4) (val_main_v62 (F := F) x4) (val_main_call0_v0 (F := F))
/-- The value of `main_v66` at an index, from its operands' values. -/
theorem val_main_v66_apply (x4 : (⟨S16, .f32⟩ : BufTy).Contents (Elt F)) (i : S_.Idx) :
    val_main_v66 (F := F) x4 i = Scalar.select (val_main_v65 (F := F) x4 i) (val_main_v62 (F := F) x4 i) (val_main_call0_v0 (F := F) i) := rfl

/-- `%cst_11 = stablehlo.constant dense<0.000000e+00> : tensor<f32>` -/
def val_main_cst_11 : (⟨S_, .f32⟩ : BufTy).Contents (Elt F) :=
  constant S_ .f32 0x00000000#32
/-- The value of `main_cst_11` at an index, from its operands' values. -/
theorem val_main_cst_11_apply (i : S_.Idx) :
    val_main_cst_11 (F := F) i = FloatOps.ofBits .f32 0x00000000#32 := rfl

/-- `%67 = stablehlo.compare EQ, %54, %cst_11, FLOAT : (tensor<f32>, tensor<f32>) -> tensor<i1>` -/
def val_main_v67 (x4 : (⟨S16, .f32⟩ : BufTy).Contents (Elt F)) : (⟨S_, .i1⟩ : BufTy).Contents (Elt F) :=
  cmpf .oeq (val_main_v54 (F := F) x4) (val_main_cst_11 (F := F))
/-- The value of `main_v67` at an index, from its operands' values. -/
theorem val_main_v67_apply (x4 : (⟨S16, .f32⟩ : BufTy).Contents (Elt F)) (i : S_.Idx) :
    val_main_v67 (F := F) x4 i = FloatOps.cmpf .oeq (val_main_v54 (F := F) x4 i) (val_main_cst_11 (F := F) i) := rfl

/-- `%cst_12 = stablehlo.constant dense<0.000000e+00> : tensor<f32>` -/
def val_main_cst_12 : (⟨S_, .f32⟩ : BufTy).Contents (Elt F) :=
  constant S_ .f32 0x00000000#32
/-- The value of `main_cst_12` at an index, from its operands' values. -/
theorem val_main_cst_12_apply (i : S_.Idx) :
    val_main_cst_12 (F := F) i = FloatOps.ofBits .f32 0x00000000#32 := rfl

-- @_where_0's %0 = stablehlo.convert %arg1 : tensor<f32>, in %68 = func.call @_where_0(…) (record main_call1)
def val_main_call1_v0 : (⟨S_, .f32⟩ : BufTy).Contents (Elt F) :=
  id (val_main_cst_12 (F := F))
/-- The value of `main_call1_v0` at an index, from its operands' values. -/
theorem val_main_call1_v0_apply (i : S_.Idx) :
    val_main_call1_v0 (F := F) i = (val_main_cst_12 (F := F) i) := rfl

/-- `%68 = func.call @_where_0(…) (record main_call1) result 0: @_where_0's %1 = stablehlo.select %arg0, %0, %arg2 : tensor<i1>, tensor<f32>` -/
def val_main_v68 (x4 : (⟨S16, .f32⟩ : BufTy).Contents (Elt F)) : (⟨S_, .f32⟩ : BufTy).Contents (Elt F) :=
  select (val_main_v67 (F := F) x4) (val_main_call1_v0 (F := F)) (val_main_v66 (F := F) x4)
/-- The value of `main_v68` at an index, from its operands' values. -/
theorem val_main_v68_apply (x4 : (⟨S16, .f32⟩ : BufTy).Contents (Elt F)) (i : S_.Idx) :
    val_main_v68 (F := F) x4 i = Scalar.select (val_main_v67 (F := F) x4 i) (val_main_call1_v0 (F := F) i) (val_main_v66 (F := F) x4 i) := rfl

/-- `%cst_13 = stablehlo.constant dense<-1.260000e+02> : tensor<f32>` -/
def val_main_cst_13 : (⟨S_, .f32⟩ : BufTy).Contents (Elt F) :=
  constant S_ .f32 0xC2FC0000#32
/-- The value of `main_cst_13` at an index, from its operands' values. -/
theorem val_main_cst_13_apply (i : S_.Idx) :
    val_main_cst_13 (F := F) i = FloatOps.ofBits .f32 0xC2FC0000#32 := rfl

/-- `%69 = stablehlo.compare LT, %68, %cst_13, FLOAT : (tensor<f32>, tensor<f32>) -> tensor<i1>` -/
def val_main_v69 (x4 : (⟨S16, .f32⟩ : BufTy).Contents (Elt F)) : (⟨S_, .i1⟩ : BufTy).Contents (Elt F) :=
  cmpf .olt (val_main_v68 (F := F) x4) (val_main_cst_13 (F := F))
/-- The value of `main_v69` at an index, from its operands' values. -/
theorem val_main_v69_apply (x4 : (⟨S16, .f32⟩ : BufTy).Contents (Elt F)) (i : S_.Idx) :
    val_main_v69 (F := F) x4 i = FloatOps.cmpf .olt (val_main_v68 (F := F) x4 i) (val_main_cst_13 (F := F) i) := rfl

/-- `%cst_14 = stablehlo.constant dense<1.270000e+02> : tensor<f32>` -/
def val_main_cst_14 : (⟨S_, .f32⟩ : BufTy).Contents (Elt F) :=
  constant S_ .f32 0x42FE0000#32
/-- The value of `main_cst_14` at an index, from its operands' values. -/
theorem val_main_cst_14_apply (i : S_.Idx) :
    val_main_cst_14 (F := F) i = FloatOps.ofBits .f32 0x42FE0000#32 := rfl

/-- `%70 = stablehlo.compare GT, %68, %cst_14, FLOAT : (tensor<f32>, tensor<f32>) -> tensor<i1>` -/
def val_main_v70 (x4 : (⟨S16, .f32⟩ : BufTy).Contents (Elt F)) : (⟨S_, .i1⟩ : BufTy).Contents (Elt F) :=
  cmpf .ogt (val_main_v68 (F := F) x4) (val_main_cst_14 (F := F))
/-- The value of `main_v70` at an index, from its operands' values. -/
theorem val_main_v70_apply (x4 : (⟨S16, .f32⟩ : BufTy).Contents (Elt F)) (i : S_.Idx) :
    val_main_v70 (F := F) x4 i = FloatOps.cmpf .ogt (val_main_v68 (F := F) x4 i) (val_main_cst_14 (F := F) i) := rfl

/-- `%cst_15 = stablehlo.constant dense<2.000000e+00> : tensor<f32>` -/
def val_main_cst_15 : (⟨S_, .f32⟩ : BufTy).Contents (Elt F) :=
  constant S_ .f32 0x40000000#32
/-- The value of `main_cst_15` at an index, from its operands' values. -/
theorem val_main_cst_15_apply (i : S_.Idx) :
    val_main_cst_15 (F := F) i = FloatOps.ofBits .f32 0x40000000#32 := rfl

/-- `%71 = stablehlo.power %cst_15, %68 : tensor<f32>` -/
def val_main_v71 (x4 : (⟨S16, .f32⟩ : BufTy).Contents (Elt F)) : (⟨S_, .f32⟩ : BufTy).Contents (Elt F) :=
  Host.powf (val_main_cst_15 (F := F)) (val_main_v68 (F := F) x4)
/-- The value of `main_v71` at an index, from its operands' values. -/
theorem val_main_v71_apply (x4 : (⟨S16, .f32⟩ : BufTy).Contents (Elt F)) (i : S_.Idx) :
    val_main_v71 (F := F) x4 i = FloatOps.hostPowf (val_main_cst_15 (F := F) i) (val_main_v68 (F := F) x4 i) := rfl

/-- `%cst_16 = stablehlo.constant dense<0x7F800000> : tensor<f32>` -/
def val_main_cst_16 : (⟨S_, .f32⟩ : BufTy).Contents (Elt F) :=
  constant S_ .f32 0x7F800000#32
/-- The value of `main_cst_16` at an index, from its operands' values. -/
theorem val_main_cst_16_apply (i : S_.Idx) :
    val_main_cst_16 (F := F) i = FloatOps.ofBits .f32 0x7F800000#32 := rfl

-- @_where_0's %0 = stablehlo.convert %arg1 : tensor<f32>, in %72 = func.call @_where_0(…) (record main_call2)
def val_main_call2_v0 : (⟨S_, .f32⟩ : BufTy).Contents (Elt F) :=
  id (val_main_cst_16 (F := F))
/-- The value of `main_call2_v0` at an index, from its operands' values. -/
theorem val_main_call2_v0_apply (i : S_.Idx) :
    val_main_call2_v0 (F := F) i = (val_main_cst_16 (F := F) i) := rfl

/-- `%72 = func.call @_where_0(…) (record main_call2) result 0: @_where_0's %1 = stablehlo.select %arg0, %0, %arg2 : tensor<i1>, tensor<f32>` -/
def val_main_v72 (x4 : (⟨S16, .f32⟩ : BufTy).Contents (Elt F)) : (⟨S_, .f32⟩ : BufTy).Contents (Elt F) :=
  select (val_main_v70 (F := F) x4) (val_main_call2_v0 (F := F)) (val_main_v71 (F := F) x4)
/-- The value of `main_v72` at an index, from its operands' values. -/
theorem val_main_v72_apply (x4 : (⟨S16, .f32⟩ : BufTy).Contents (Elt F)) (i : S_.Idx) :
    val_main_v72 (F := F) x4 i = Scalar.select (val_main_v70 (F := F) x4 i) (val_main_call2_v0 (F := F) i) (val_main_v71 (F := F) x4 i) := rfl

/-- `%cst_17 = stablehlo.constant dense<0.000000e+00> : tensor<f32>` -/
def val_main_cst_17 : (⟨S_, .f32⟩ : BufTy).Contents (Elt F) :=
  constant S_ .f32 0x00000000#32
/-- The value of `main_cst_17` at an index, from its operands' values. -/
theorem val_main_cst_17_apply (i : S_.Idx) :
    val_main_cst_17 (F := F) i = FloatOps.ofBits .f32 0x00000000#32 := rfl

-- @_where_0's %0 = stablehlo.convert %arg1 : tensor<f32>, in %73 = func.call @_where_0(…) (record main_call3)
def val_main_call3_v0 : (⟨S_, .f32⟩ : BufTy).Contents (Elt F) :=
  id (val_main_cst_17 (F := F))
/-- The value of `main_call3_v0` at an index, from its operands' values. -/
theorem val_main_call3_v0_apply (i : S_.Idx) :
    val_main_call3_v0 (F := F) i = (val_main_cst_17 (F := F) i) := rfl

/-- `%73 = func.call @_where_0(…) (record main_call3) result 0: @_where_0's %1 = stablehlo.select %arg0, %0, %arg2 : tensor<i1>, tensor<f32>` -/
def val_main_v73 (x4 : (⟨S16, .f32⟩ : BufTy).Contents (Elt F)) : (⟨S_, .f32⟩ : BufTy).Contents (Elt F) :=
  select (val_main_v69 (F := F) x4) (val_main_call3_v0 (F := F)) (val_main_v72 (F := F) x4)
/-- The value of `main_v73` at an index, from its operands' values. -/
theorem val_main_v73_apply (x4 : (⟨S16, .f32⟩ : BufTy).Contents (Elt F)) (i : S_.Idx) :
    val_main_v73 (F := F) x4 i = Scalar.select (val_main_v69 (F := F) x4 i) (val_main_call3_v0 (F := F) i) (val_main_v72 (F := F) x4 i) := rfl

/-- `%74 = stablehlo.negate %68 : tensor<f32>` -/
def val_main_v74 (x4 : (⟨S16, .f32⟩ : BufTy).Contents (Elt F)) : (⟨S_, .f32⟩ : BufTy).Contents (Elt F) :=
  Host.negf (val_main_v68 (F := F) x4)
/-- The value of `main_v74` at an index, from its operands' values. -/
theorem val_main_v74_apply (x4 : (⟨S16, .f32⟩ : BufTy).Contents (Elt F)) (i : S_.Idx) :
    val_main_v74 (F := F) x4 i = FloatOps.hostNegf (val_main_v68 (F := F) x4 i) := rfl

/-- `%cst_18 = stablehlo.constant dense<-1.260000e+02> : tensor<f32>` -/
def val_main_cst_18 : (⟨S_, .f32⟩ : BufTy).Contents (Elt F) :=
  constant S_ .f32 0xC2FC0000#32
/-- The value of `main_cst_18` at an index, from its operands' values. -/
theorem val_main_cst_18_apply (i : S_.Idx) :
    val_main_cst_18 (F := F) i = FloatOps.ofBits .f32 0xC2FC0000#32 := rfl

/-- `%75 = stablehlo.compare LT, %74, %cst_18, FLOAT : (tensor<f32>, tensor<f32>) -> tensor<i1>` -/
def val_main_v75 (x4 : (⟨S16, .f32⟩ : BufTy).Contents (Elt F)) : (⟨S_, .i1⟩ : BufTy).Contents (Elt F) :=
  cmpf .olt (val_main_v74 (F := F) x4) (val_main_cst_18 (F := F))
/-- The value of `main_v75` at an index, from its operands' values. -/
theorem val_main_v75_apply (x4 : (⟨S16, .f32⟩ : BufTy).Contents (Elt F)) (i : S_.Idx) :
    val_main_v75 (F := F) x4 i = FloatOps.cmpf .olt (val_main_v74 (F := F) x4 i) (val_main_cst_18 (F := F) i) := rfl

/-- `%cst_19 = stablehlo.constant dense<1.270000e+02> : tensor<f32>` -/
def val_main_cst_19 : (⟨S_, .f32⟩ : BufTy).Contents (Elt F) :=
  constant S_ .f32 0x42FE0000#32
/-- The value of `main_cst_19` at an index, from its operands' values. -/
theorem val_main_cst_19_apply (i : S_.Idx) :
    val_main_cst_19 (F := F) i = FloatOps.ofBits .f32 0x42FE0000#32 := rfl

/-- `%76 = stablehlo.compare GT, %74, %cst_19, FLOAT : (tensor<f32>, tensor<f32>) -> tensor<i1>` -/
def val_main_v76 (x4 : (⟨S16, .f32⟩ : BufTy).Contents (Elt F)) : (⟨S_, .i1⟩ : BufTy).Contents (Elt F) :=
  cmpf .ogt (val_main_v74 (F := F) x4) (val_main_cst_19 (F := F))
/-- The value of `main_v76` at an index, from its operands' values. -/
theorem val_main_v76_apply (x4 : (⟨S16, .f32⟩ : BufTy).Contents (Elt F)) (i : S_.Idx) :
    val_main_v76 (F := F) x4 i = FloatOps.cmpf .ogt (val_main_v74 (F := F) x4 i) (val_main_cst_19 (F := F) i) := rfl

/-- `%cst_20 = stablehlo.constant dense<2.000000e+00> : tensor<f32>` -/
def val_main_cst_20 : (⟨S_, .f32⟩ : BufTy).Contents (Elt F) :=
  constant S_ .f32 0x40000000#32
/-- The value of `main_cst_20` at an index, from its operands' values. -/
theorem val_main_cst_20_apply (i : S_.Idx) :
    val_main_cst_20 (F := F) i = FloatOps.ofBits .f32 0x40000000#32 := rfl

/-- `%77 = stablehlo.power %cst_20, %74 : tensor<f32>` -/
def val_main_v77 (x4 : (⟨S16, .f32⟩ : BufTy).Contents (Elt F)) : (⟨S_, .f32⟩ : BufTy).Contents (Elt F) :=
  Host.powf (val_main_cst_20 (F := F)) (val_main_v74 (F := F) x4)
/-- The value of `main_v77` at an index, from its operands' values. -/
theorem val_main_v77_apply (x4 : (⟨S16, .f32⟩ : BufTy).Contents (Elt F)) (i : S_.Idx) :
    val_main_v77 (F := F) x4 i = FloatOps.hostPowf (val_main_cst_20 (F := F) i) (val_main_v74 (F := F) x4 i) := rfl

/-- `%cst_21 = stablehlo.constant dense<0x7F800000> : tensor<f32>` -/
def val_main_cst_21 : (⟨S_, .f32⟩ : BufTy).Contents (Elt F) :=
  constant S_ .f32 0x7F800000#32
/-- The value of `main_cst_21` at an index, from its operands' values. -/
theorem val_main_cst_21_apply (i : S_.Idx) :
    val_main_cst_21 (F := F) i = FloatOps.ofBits .f32 0x7F800000#32 := rfl

-- @_where_0's %0 = stablehlo.convert %arg1 : tensor<f32>, in %78 = func.call @_where_0(…) (record main_call4)
def val_main_call4_v0 : (⟨S_, .f32⟩ : BufTy).Contents (Elt F) :=
  id (val_main_cst_21 (F := F))
/-- The value of `main_call4_v0` at an index, from its operands' values. -/
theorem val_main_call4_v0_apply (i : S_.Idx) :
    val_main_call4_v0 (F := F) i = (val_main_cst_21 (F := F) i) := rfl

/-- `%78 = func.call @_where_0(…) (record main_call4) result 0: @_where_0's %1 = stablehlo.select %arg0, %0, %arg2 : tensor<i1>, tensor<f32>` -/
def val_main_v78 (x4 : (⟨S16, .f32⟩ : BufTy).Contents (Elt F)) : (⟨S_, .f32⟩ : BufTy).Contents (Elt F) :=
  select (val_main_v76 (F := F) x4) (val_main_call4_v0 (F := F)) (val_main_v77 (F := F) x4)
/-- The value of `main_v78` at an index, from its operands' values. -/
theorem val_main_v78_apply (x4 : (⟨S16, .f32⟩ : BufTy).Contents (Elt F)) (i : S_.Idx) :
    val_main_v78 (F := F) x4 i = Scalar.select (val_main_v76 (F := F) x4 i) (val_main_call4_v0 (F := F) i) (val_main_v77 (F := F) x4 i) := rfl

/-- `%cst_22 = stablehlo.constant dense<0.000000e+00> : tensor<f32>` -/
def val_main_cst_22 : (⟨S_, .f32⟩ : BufTy).Contents (Elt F) :=
  constant S_ .f32 0x00000000#32
/-- The value of `main_cst_22` at an index, from its operands' values. -/
theorem val_main_cst_22_apply (i : S_.Idx) :
    val_main_cst_22 (F := F) i = FloatOps.ofBits .f32 0x00000000#32 := rfl

-- @_where_0's %0 = stablehlo.convert %arg1 : tensor<f32>, in %79 = func.call @_where_0(…) (record main_call5)
def val_main_call5_v0 : (⟨S_, .f32⟩ : BufTy).Contents (Elt F) :=
  id (val_main_cst_22 (F := F))
/-- The value of `main_call5_v0` at an index, from its operands' values. -/
theorem val_main_call5_v0_apply (i : S_.Idx) :
    val_main_call5_v0 (F := F) i = (val_main_cst_22 (F := F) i) := rfl

/-- `%79 = func.call @_where_0(…) (record main_call5) result 0: @_where_0's %1 = stablehlo.select %arg0, %0, %arg2 : tensor<i1>, tensor<f32>` -/
def val_main_v79 (x4 : (⟨S16, .f32⟩ : BufTy).Contents (Elt F)) : (⟨S_, .f32⟩ : BufTy).Contents (Elt F) :=
  select (val_main_v75 (F := F) x4) (val_main_call5_v0 (F := F)) (val_main_v78 (F := F) x4)
/-- The value of `main_v79` at an index, from its operands' values. -/
theorem val_main_v79_apply (x4 : (⟨S16, .f32⟩ : BufTy).Contents (Elt F)) (i : S_.Idx) :
    val_main_v79 (F := F) x4 i = Scalar.select (val_main_v75 (F := F) x4 i) (val_main_call5_v0 (F := F) i) (val_main_v78 (F := F) x4 i) := rfl

/-- `%80 = stablehlo.abs %53 : tensor<7x256x8192xf32>` -/
def val_main_v80 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) : (⟨S7x256x8192, .f32⟩ : BufTy).Contents (Elt F) :=
  Host.absf (val_main_v53 (F := F) x0 x1 x2 x3)
/-- The value of `main_v80` at an index, from its operands' values. -/
theorem val_main_v80_apply (x0 : (⟨S7x256x48x128, .bf16⟩ : BufTy).Contents (Elt F)) (x1 x2 : (⟨S7x256x8x128, .bf16⟩ : BufTy).Contents (Elt F)) (x3 : (⟨S7x256, .i32⟩ : BufTy).Contents (Elt F)) (i : S7x256x8192.Idx) :
    val_main_v80 (F := F) x0 x1 x2 x3 i = FloatOps.hostAbsf (val_main_v53 (F := F) x0 x1 x2 x3 i) := rfl

/-- `%cst_23 = stablehlo.constant dense<0xFF800000> : tensor<f32>` -/
def val_main_cst_23 : (⟨S_, .f32⟩ : BufTy).Contents (Elt F) :=
  constant S_ .f32 0xFF800000#32
/-- The value of `main_cst_23` at an index, from its operands' values. -/
theorem val_main_cst_23_apply (i : S_.Idx) :
    val_main_cst_23 (F := F) i = FloatOps.ofBits .f32 0xFF800000#32 := rfl

/-- `%81 = stablehlo.reduce(%80 init: %cst_23) applies stablehlo.maximum across dimensions = [0, 1, 2] : (tensor<7x256x8192xf32>, tensor<f32>) -> tensor<f32> {` -/
def val_main_v81 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) : (⟨S_, .f32⟩ : BufTy).Contents (Elt F) :=
  Host.reduce FloatOps.maximumf (val_main_v80 (F := F) x0 x1 x2 x3) (val_main_cst_23 (F := F)) reducesTo_S7x256x8192_S_d0_1_2 h_S_

/-- `%82 = stablehlo.broadcast_in_dim %81, dims = [] : (tensor<f32>) -> tensor<1xf32>` -/
def val_main_v82 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) : (⟨S1, .f32⟩ : BufTy).Contents (Elt F) :=
  broadcastInDim S1 ![] bcast_S_S1 (val_main_v81 (F := F) x0 x1 x2 x3)
/-- Where `main_v82` reads its operand. -/
abbrev idx_main_v82 (i : S1.Idx) : S_.Idx := fun a => a.elim0
/-- The value of `main_v82` at an index, from its operands' values. -/
theorem val_main_v82_apply (x0 : (⟨S7x256x48x128, .bf16⟩ : BufTy).Contents (Elt F)) (x1 x2 : (⟨S7x256x8x128, .bf16⟩ : BufTy).Contents (Elt F)) (x3 : (⟨S7x256, .i32⟩ : BufTy).Contents (Elt F)) (i : S1.Idx) :
    val_main_v82 (F := F) x0 x1 x2 x3 i = val_main_v81 (F := F) x0 x1 x2 x3 (idx_main_v82 i) := by
  unfold val_main_v82
  generalize val_main_v81 (F := F) x0 x1 x2 x3 = y
  exact broadcastInDim_apply _ bcast_S_S1 y i (idx_main_v82 i) (fun a => a.elim0)

/-- `%83 = stablehlo.slice %arg4 [0:15] : (tensor<16xf32>) -> tensor<15xf32>` -/
def val_main_v83 (x4 : (⟨S16, .f32⟩ : BufTy).Contents (Elt F)) : (⟨S15, .f32⟩ : BufTy).Contents (Elt F) :=
  extractStridedSlice S15 ![0] (x4) slices_S16_S15_0
set_option backward.proofsInPublic true in
/-- Where `main_v83` reads its operand. -/
abbrev idx_main_v83 (i : S15.Idx) : S16.Idx := fun a => match a with
  | ⟨0, _⟩ => ⟨(i 0).val, by have h0 : (i 0).val < 15 := (i 0).isLt; show (i 0).val < 16; omega⟩
/-- The value of `main_v83` at an index, from its operands' values. -/
theorem val_main_v83_apply (x4 : (⟨S16, .f32⟩ : BufTy).Contents (Elt F)) (i : S15.Idx) :
    val_main_v83 (F := F) x4 i = x4 (idx_main_v83 i) := by
  unfold val_main_v83
  exact extractStridedSlice_apply ![0] x4 slices_S16_S15_0 i (idx_main_v83 i) (fun a => match a with
    | ⟨0, _⟩ => by show (i 0).val = 0 + (i 0).val; omega)

/-- `%84 = stablehlo.concatenate %82, %83, dim = 0 : (tensor<1xf32>, tensor<15xf32>) -> tensor<16xf32>` -/
def val_main_v84 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) (x4 : (⟨S16, .f32⟩ : BufTy).Contents (Elt F)) : (⟨S16, .f32⟩ : BufTy).Contents (Elt F) :=
  concatenate S16 0 [⟨S1, (val_main_v82 (F := F) x0 x1 x2 x3)⟩, ⟨S15, (val_main_v83 (F := F) x4)⟩] concatenates_S1_S15_S16_d0

/-- `%88 = stablehlo.reshape %53 : (tensor<7x256x8192xf32>) -> tensor<1792x8192xf32>` -/
def val_main_v88 (x0 : (⟨S7x256x48x128, .bf16⟩ : BufTy).Contents (Elt F)) (x1 x2 : (⟨S7x256x8x128, .bf16⟩ : BufTy).Contents (Elt F)) (x3 : (⟨S7x256, .i32⟩ : BufTy).Contents (Elt F)) : (⟨S1792x8192, .f32⟩ : BufTy).Contents (Elt F) :=
  shapeCast _ (val_main_v53 (F := F) x0 x1 x2 x3) shapeCasts_S7x256x8192_S1792x8192
set_option backward.proofsInPublic true in
/-- Where `main_v88` reads its operand. -/
abbrev idx_main_v88 (i : S1792x8192.Idx) : S7x256x8192.Idx := fun a => match a with
  | ⟨0, _⟩ => ⟨((i 0).val * 8192 + (i 1).val) / 2097152, by have h0 : (i 0).val < 1792 := (i 0).isLt; have h1 : (i 1).val < 8192 := (i 1).isLt; show ((i 0).val * 8192 + (i 1).val) / 2097152 < 7; omega⟩
  | ⟨1, _⟩ => ⟨((i 0).val * 8192 + (i 1).val) / 8192 % 256, by have h0 : (i 0).val < 1792 := (i 0).isLt; have h1 : (i 1).val < 8192 := (i 1).isLt; show ((i 0).val * 8192 + (i 1).val) / 8192 % 256 < 256; omega⟩
  | ⟨2, _⟩ => ⟨((i 0).val * 8192 + (i 1).val) % 8192, by have h0 : (i 0).val < 1792 := (i 0).isLt; have h1 : (i 1).val < 8192 := (i 1).isLt; show ((i 0).val * 8192 + (i 1).val) % 8192 < 8192; omega⟩
/-- The value of `main_v88` at an index, from its operands' values. -/
theorem val_main_v88_apply (x0 : (⟨S7x256x48x128, .bf16⟩ : BufTy).Contents (Elt F)) (x1 x2 : (⟨S7x256x8x128, .bf16⟩ : BufTy).Contents (Elt F)) (x3 : (⟨S7x256, .i32⟩ : BufTy).Contents (Elt F)) (i : S1792x8192.Idx) :
    val_main_v88 (F := F) x0 x1 x2 x3 i = val_main_v53 (F := F) x0 x1 x2 x3 (idx_main_v88 i) := by
  unfold val_main_v88
  generalize val_main_v53 (F := F) x0 x1 x2 x3 = y
  exact shapeCast_apply y shapeCasts_S7x256x8192_S1792x8192 i (idx_main_v88 i)
    (by rewrite [Shape.rowMajor_val_three, Shape.rowMajor_val_two]; have h0 : (i 0).val < 1792 := (i 0).isLt; have h1 : (i 1).val < 8192 := (i 1).isLt; show (((i 0).val * 8192 + (i 1).val) / 2097152 * 256 + ((i 0).val * 8192 + (i 1).val) / 8192 % 256) * 8192 + ((i 0).val * 8192 + (i 1).val) % 8192 = (i 0).val * 8192 + (i 1).val; omega)

/-- `%85 = stablehlo.reshape %79 : (tensor<f32>) -> tensor<1x1xf32>` -/
def val_main_v85 (x4 : (⟨S16, .f32⟩ : BufTy).Contents (Elt F)) : (⟨S1x1, .f32⟩ : BufTy).Contents (Elt F) :=
  shapeCast _ (val_main_v79 (F := F) x4) shapeCasts_S_S1x1

/-- `%86 = stablehlo.multiply %73, %arg6 : tensor<f32>` -/
def val_main_v86 (x4 : (⟨S16, .f32⟩ : BufTy).Contents (Elt F)) (x6 : (⟨S_, .f32⟩ : BufTy).Contents (Elt F)) : (⟨S_, .f32⟩ : BufTy).Contents (Elt F) :=
  mulf (val_main_v73 (F := F) x4) (x6)
/-- The value of `main_v86` at an index, from its operands' values. -/
theorem val_main_v86_apply (x4 : (⟨S16, .f32⟩ : BufTy).Contents (Elt F)) (x6 : (⟨S_, .f32⟩ : BufTy).Contents (Elt F)) (i : S_.Idx) :
    val_main_v86 (F := F) x4 x6 i = FloatOps.mulf (val_main_v73 (F := F) x4 i) (x6 i) := rfl

/-- `%87 = stablehlo.reshape %86 : (tensor<f32>) -> tensor<1x1xf32>` -/
def val_main_v87 (x4 : (⟨S16, .f32⟩ : BufTy).Contents (Elt F)) (x6 : (⟨S_, .f32⟩ : BufTy).Contents (Elt F)) : (⟨S1x1, .f32⟩ : BufTy).Contents (Elt F) :=
  shapeCast _ (val_main_v86 (F := F) x4 x6) shapeCasts_S_S1x1

end Cert.ReferenceIdeal.Vals

end
-- ==== Proof.RefEq.lean ====
/- The reference's gradient, before it is quantised, is the concatenated gradient with the rotation undone. -/
module

public import proofs.«01_k».proof.Proof.RefVals
public import proofs.«01_k».proof.Proof.KernelEq

@[expose] public section

set_option maxRecDepth 16384

noncomputable section

namespace Cert.ReferenceIdeal.Hand

open Cert.ReferenceIdeal Cert.ReferenceIdeal.Gen Cert.ReferenceIdeal.Vals Cert.Hand
open Cert.KernelIdeal.Hand (angle cosAt sinAt flatRow)
open Idealize.ShloMosaic Idealize.ShloMosaic.TcCoe Idealize.SL.Sem

/-- Both programs use the same 64 frequencies. -/
theorem freq_eq (i : S64.Idx) : val_main_v10 (F := Ideal) i = Cert.KernelIdeal.Vals.val_main_v10 (F := Ideal) i := rfl

theorem v16_eq (x3 : (⟨S7x256, .i32⟩ : BufTy).Contents (Elt Ideal)) (a : Fin 7) (b : Fin 256) (k : Fin 64) :
    (val_main_v16 (F := Ideal) x3 (ix3 a b k) : EReal) = angle x3 a b k := by
  rw [val_main_v16_apply, val_main_v14_apply, val_main_v12_apply, val_main_v11_apply, val_main_v15_apply, val_main_v13_apply, freq_eq]
  have e : idx_main_v12 (idx_main_v14 (ix3 a b k)) = ix2 a b := (ix2_eta (n0 := 7) (n1 := 256) _).symm
  have e' : idx_main_v13 (idx_main_v15 (ix3 a b k)) = ix1 k := (ix1_eta (n0 := 64) _).symm
  rw [e, e']
  rfl

/-- The cosines, at any index that names batch, position and frequency. -/
theorem v18_eq (x3 : (⟨S7x256, .i32⟩ : BufTy).Contents (Elt Ideal)) (a : Fin 7) (b : Fin 256) (k : Fin 64) (i : S7x256x1x64.Idx)
    (h0 : (i 0).val = a.val) (h1 : (i 1).val = b.val) (h3 : (i 3).val = k.val) :
    (val_main_v18 (F := Ideal) x3 i : EReal) = cosAt x3 a b k := by
  have e : idx_main_v18 i = ix3 a b k := funext fun d => match d with
    | ⟨0, _⟩ => Fin.ext h0
    | ⟨1, _⟩ => Fin.ext h1
    | ⟨2, _⟩ => Fin.ext h3
  rw [val_main_v18_apply, val_main_v17_apply, e, v16_eq]
  rfl

/-- The sines, likewise. -/
theorem v20_eq (x3 : (⟨S7x256, .i32⟩ : BufTy).Contents (Elt Ideal)) (a : Fin 7) (b : Fin 256) (k : Fin 64) (i : S7x256x1x64.Idx)
    (h0 : (i 0).val = a.val) (h1 : (i 1).val = b.val) (h3 : (i 3).val = k.val) :
    (val_main_v20 (F := Ideal) x3 i : EReal) = sinAt x3 a b k := by
  have e : idx_main_v20 i = ix3 a b k := funext fun d => match d with
    | ⟨0, _⟩ => Fin.ext h0
    | ⟨1, _⟩ => Fin.ext h1
    | ⟨2, _⟩ => Fin.ext h3
  rw [val_main_v20_apply, val_main_v19_apply, e, v16_eq]
  rfl

section
variable (x0 : (⟨S7x256x48x128, .bf16⟩ : BufTy).Contents (Elt Ideal)) (x1 x2 : (⟨S7x256x8x128, .bf16⟩ : BufTy).Contents (Elt Ideal))
  (x3 : (⟨S7x256, .i32⟩ : BufTy).Contents (Elt Ideal))

/-- The rotation undone on the 48 heads of argument 0. -/
theorem v34_eq (a : Fin 7) (b : Fin 256) (h : Fin 48) (d : Fin 128) :
    val_main_v34 (F := Ideal) x0 x3 (ix4 a b h d) = rope (fun d => x0 (ix4 a b h d)) (cosAt x3 a b) (sinAt x3 a b) d := by
  have hd := d.isLt
  have elo : ∀ k : Fin 64, val_main_v22 (F := Ideal) x0 (ix4 a b h k) = x0 (ix4 a b h ⟨k.val, by omega⟩) := by
    intro k
    rw [val_main_v22_apply, val_main_v21_apply]
    show x0 _ = x0 _
    refine congrArg x0 (funext fun e => ?_)
    match e with
    | ⟨0, _⟩ => exact Fin.ext (by first | rfl | (show a.val + 0 = a.val; rfl) | (show 0 + a.val = a.val; omega))
    | ⟨1, _⟩ => exact Fin.ext (by first | rfl | (show 0 + b.val = b.val; omega))
    | ⟨2, _⟩ => exact Fin.ext (by first | rfl | (show 0 + h.val = h.val; omega))
    | ⟨3, _⟩ => exact Fin.ext (by first | rfl | (show 0 + k.val = k.val; omega))
  have ehi : ∀ k : Fin 64, val_main_v23 (F := Ideal) x0 (ix4 a b h k) = x0 (ix4 a b h ⟨k.val + 64, by omega⟩) := by
    intro k
    rw [val_main_v23_apply, val_main_v21_apply]
    show x0 _ = x0 _
    refine congrArg x0 (funext fun e => ?_)
    match e with
    | ⟨0, _⟩ => exact Fin.ext (by first | rfl | (show 0 + a.val = a.val; omega))
    | ⟨1, _⟩ => exact Fin.ext (by first | rfl | (show 0 + b.val = b.val; omega))
    | ⟨2, _⟩ => exact Fin.ext (by first | rfl | (show 0 + h.val = h.val; omega))
    | ⟨3, _⟩ => exact Fin.ext (by first | rfl | (show 64 + k.val = k.val + 64; omega))
  unfold val_main_v34
  by_cases hlt : d.val < 64
  · refine (concatenate_pair_apply_left (t := S7x256x48x128) (s₁ := S7x256x48x64) (s₂ := S7x256x48x64) 3 _ _ _ _ rfl (ix4 a b h ⟨d.val, hlt⟩) ?_).trans ?_
    · intro e
      match e with
      | ⟨0, _⟩ => rfl
      | ⟨1, _⟩ => rfl
      | ⟨2, _⟩ => rfl
      | ⟨3, _⟩ => rfl
    · refine Eq.trans ?_ (rope_lo (fun d => x0 (ix4 a b h d)) (cosAt x3 a b) (sinAt x3 a b) ⟨d.val, hlt⟩).symm
      rw [val_main_v28_apply, val_main_v25_apply, val_main_v27_apply, val_main_v24_apply, val_main_v26_apply, elo, ehi]
      exact congrArg₂ (fun p q : EReal => x0 (ix4 a b h ⟨d.val, by omega⟩) * p + x0 (ix4 a b h ⟨d.val + 64, by omega⟩) * q)
        (v18_eq x3 a b ⟨d.val, hlt⟩ _ rfl rfl rfl) (v20_eq x3 a b ⟨d.val, hlt⟩ _ rfl rfl rfl)
  · refine (concatenate_pair_apply_right (t := S7x256x48x128) (s₁ := S7x256x48x64) (s₂ := S7x256x48x64) 3 _ _ _ _ rfl rfl
      (ix4 a b h ⟨d.val - 64, by omega⟩) ?_ ?_).trans ?_
    · intro e he
      match e with
      | ⟨0, _⟩ => rfl
      | ⟨1, _⟩ => rfl
      | ⟨2, _⟩ => rfl
      | ⟨3, _⟩ => exact absurd rfl he
    · show d.val - 64 + 64 = d.val
      omega
    · have e := rope_hi (fun d => x0 (ix4 a b h d)) (cosAt x3 a b) (sinAt x3 a b) ⟨d.val - 64, by omega⟩
      have ed : (⟨d.val - 64 + 64, by omega⟩ : Fin 128) = d := Fin.ext (by dsimp only; omega)
      dsimp only at e
      rw [show (⟨d.val - 64 + 64, _⟩ : Fin 128) = d from ed] at e
      refine Eq.trans ?_ e.symm
      rw [val_main_v33_apply, val_main_v30_apply, val_main_v32_apply, val_main_v29_apply, val_main_v31_apply, elo, ehi]
      dsimp only
      rw [ed]
      exact congrArg₂ (fun p q : EReal => x0 (ix4 a b h d) * p - x0 (ix4 a b h ⟨d.val - 64, by omega⟩) * q)
        (v18_eq x3 a b ⟨d.val - 64, by omega⟩ _ rfl rfl rfl) (v20_eq x3 a b ⟨d.val - 64, by omega⟩ _ rfl rfl rfl)

/-- The rotation undone on the 8 heads of argument 1. -/
theorem v49_eq (a : Fin 7) (b : Fin 256) (h : Fin 8) (d : Fin 128) :
    val_main_v49 (F := Ideal) x1 x3 (ix4 a b h d) = rope (fun d => x1 (ix4 a b h d)) (cosAt x3 a b) (sinAt x3 a b) d := by
  have hd := d.isLt
  have elo : ∀ k : Fin 64, val_main_v37 (F := Ideal) x1 (ix4 a b h k) = x1 (ix4 a b h ⟨k.val, by omega⟩) := by
    intro k
    rw [val_main_v37_apply, val_main_v36_apply]
    show x1 _ = x1 _
    refine congrArg x1 (funext fun e => ?_)
    match e with
    | ⟨0, _⟩ => exact Fin.ext (by first | rfl | (show a.val + 0 = a.val; rfl) | (show 0 + a.val = a.val; omega))
    | ⟨1, _⟩ => exact Fin.ext (by first | rfl | (show 0 + b.val = b.val; omega))
    | ⟨2, _⟩ => exact Fin.ext (by first | rfl | (show 0 + h.val = h.val; omega))
    | ⟨3, _⟩ => exact Fin.ext (by first | rfl | (show 0 + k.val = k.val; omega))
  have ehi : ∀ k : Fin 64, val_main_v38 (F := Ideal) x1 (ix4 a b h k) = x1 (ix4 a b h ⟨k.val + 64, by omega⟩) := by
    intro k
    rw [val_main_v38_apply, val_main_v36_apply]
    show x1 _ = x1 _
    refine congrArg x1 (funext fun e => ?_)
    match e with
    | ⟨0, _⟩ => exact Fin.ext (by first | rfl | (show 0 + a.val = a.val; omega))
    | ⟨1, _⟩ => exact Fin.ext (by first | rfl | (show 0 + b.val = b.val; omega))
    | ⟨2, _⟩ => exact Fin.ext (by first | rfl | (show 0 + h.val = h.val; omega))
    | ⟨3, _⟩ => exact Fin.ext (by first | rfl | (show 64 + k.val = k.val + 64; omega))
  unfold val_main_v49
  by_cases hlt : d.val < 64
  · refine (concatenate_pair_apply_left (t := S7x256x8x128) (s₁ := S7x256x8x64) (s₂ := S7x256x8x64) 3 _ _ _ _ rfl (ix4 a b h ⟨d.val, hlt⟩) ?_).trans ?_
    · intro e
      match e with
      | ⟨0, _⟩ => rfl
      | ⟨1, _⟩ => rfl
      | ⟨2, _⟩ => rfl
      | ⟨3, _⟩ => rfl
    · refine Eq.trans ?_ (rope_lo (fun d => x1 (ix4 a b h d)) (cosAt x3 a b) (sinAt x3 a b) ⟨d.val, hlt⟩).symm
      rw [val_main_v43_apply, val_main_v40_apply, val_main_v42_apply, val_main_v39_apply, val_main_v41_apply, elo, ehi]
      exact congrArg₂ (fun p q : EReal => x1 (ix4 a b h ⟨d.val, by omega⟩) * p + x1 (ix4 a b h ⟨d.val + 64, by omega⟩) * q)
        (v18_eq x3 a b ⟨d.val, hlt⟩ _ rfl rfl rfl) (v20_eq x3 a b ⟨d.val, hlt⟩ _ rfl rfl rfl)
  · refine (concatenate_pair_apply_right (t := S7x256x8x128) (s₁ := S7x256x8x64) (s₂ := S7x256x8x64) 3 _ _ _ _ rfl rfl
      (ix4 a b h ⟨d.val - 64, by omega⟩) ?_ ?_).trans ?_
    · intro e he
      match e with
      | ⟨0, _⟩ => rfl
      | ⟨1, _⟩ => rfl
      | ⟨2, _⟩ => rfl
      | ⟨3, _⟩ => exact absurd rfl he
    · show d.val - 64 + 64 = d.val
      omega
    · have e := rope_hi (fun d => x1 (ix4 a b h d)) (cosAt x3 a b) (sinAt x3 a b) ⟨d.val - 64, by omega⟩
      have ed : (⟨d.val - 64 + 64, by omega⟩ : Fin 128) = d := Fin.ext (by dsimp only; omega)
      dsimp only at e
      rw [show (⟨d.val - 64 + 64, _⟩ : Fin 128) = d from ed] at e
      refine Eq.trans ?_ e.symm
      rw [val_main_v48_apply, val_main_v45_apply, val_main_v47_apply, val_main_v44_apply, val_main_v46_apply, elo, ehi]
      dsimp only
      rw [ed]
      exact congrArg₂ (fun p q : EReal => x1 (ix4 a b h d) * p - x1 (ix4 a b h ⟨d.val - 64, by omega⟩) * q)
        (v18_eq x3 a b ⟨d.val - 64, by omega⟩ _ rfl rfl rfl) (v20_eq x3 a b ⟨d.val - 64, by omega⟩ _ rfl rfl rfl)

/-- The reference's concatenated gradient is the target. -/
theorem v53_eq (a : Fin 7) (b : Fin 256) (Q : Fin 8192) :
    val_main_v53 (F := Ideal) x0 x1 x2 x3 (ix3 a b Q) = target x0 x1 x2 (cosAt x3) (sinAt x3) a b Q := by
  unfold target
  unfold val_main_v53
  have hQ := Q.isLt
  have hb := b.isLt
  by_cases h : Q.val < 6144
  · rw [dif_pos h]
    refine (concatenate_apply_piece (t := S7x256x8192) 2 _ _ (ix3 a b Q) 0 (by show 0 < 3; omega) S7x256x6144 (val_main_v35 (F := Ideal) x0 x3) rfl rfl 0 rfl
      (ix3 a b ⟨Q.val, h⟩) ?_ ?_).trans ?_
    · intro d hd
      match d with
      | ⟨0, _⟩ => rfl
      | ⟨1, _⟩ => rfl
      | ⟨2, _⟩ => exact absurd rfl hd
    · show 0 + Q.val = Q.val
      omega
    · rw [val_main_v35_apply, ← v34_eq]
      refine congrArg _ (funext fun d => ?_)
      match d with
      | ⟨0, _⟩ => exact Fin.ext (by show ((a.val * 256 + b.val) * 6144 + Q.val) / 1572864 = a.val; omega)
      | ⟨1, _⟩ => exact Fin.ext (by show ((a.val * 256 + b.val) * 6144 + Q.val) / 6144 % 256 = b.val; omega)
      | ⟨2, _⟩ => exact Fin.ext (by show ((a.val * 256 + b.val) * 6144 + Q.val) / 128 % 48 = Q.val / 128; omega)
      | ⟨3, _⟩ => exact Fin.ext (by show ((a.val * 256 + b.val) * 6144 + Q.val) % 128 = Q.val % 128; omega)
  · rw [dif_neg h]
    by_cases h' : Q.val < 7168
    · rw [dif_pos h']
      refine (concatenate_apply_piece (t := S7x256x8192) 2 _ _ (ix3 a b Q) 1 (by show 1 < 3; omega) S7x256x1024 (val_main_v50 (F := Ideal) x1 x3) rfl rfl 6144
        rfl (ix3 a b ⟨Q.val - 6144, by omega⟩) ?_ ?_).trans ?_
      · intro d hd
        match d with
        | ⟨0, _⟩ => rfl
        | ⟨1, _⟩ => rfl
        | ⟨2, _⟩ => exact absurd rfl hd
      · show 6144 + (Q.val - 6144) = Q.val
        omega
      · rw [val_main_v50_apply, ← v49_eq]
        refine congrArg _ (funext fun d => ?_)
        match d with
        | ⟨0, _⟩ => exact Fin.ext (by show ((a.val * 256 + b.val) * 1024 + (Q.val - 6144)) / 262144 = a.val; omega)
        | ⟨1, _⟩ => exact Fin.ext (by show ((a.val * 256 + b.val) * 1024 + (Q.val - 6144)) / 1024 % 256 = b.val; omega)
        | ⟨2, _⟩ => exact Fin.ext (by show ((a.val * 256 + b.val) * 1024 + (Q.val - 6144)) / 128 % 8 = (Q.val - 6144) / 128; omega)
        | ⟨3, _⟩ => exact Fin.ext (by show ((a.val * 256 + b.val) * 1024 + (Q.val - 6144)) % 128 = Q.val % 128; omega)
    · rw [dif_neg h']
      refine (concatenate_apply_piece (t := S7x256x8192) 2 _ _ (ix3 a b Q) 2 (by show 2 < 3; omega) S7x256x1024 (val_main_v52 (F := Ideal) x2) rfl rfl 7168
        rfl (ix3 a b ⟨Q.val - 7168, by omega⟩) ?_ ?_).trans ?_
      · intro d hd
        match d with
        | ⟨0, _⟩ => rfl
        | ⟨1, _⟩ => rfl
        | ⟨2, _⟩ => exact absurd rfl hd
      · show 7168 + (Q.val - 7168) = Q.val
        omega
      · rw [val_main_v52_apply, val_main_v51_apply]
        show x2 _ = x2 _
        refine congrArg x2 (funext fun d => ?_)
        match d with
        | ⟨0, _⟩ => exact Fin.ext (by show ((a.val * 256 + b.val) * 1024 + (Q.val - 7168)) / 262144 = a.val; omega)
        | ⟨1, _⟩ => exact Fin.ext (by show ((a.val * 256 + b.val) * 1024 + (Q.val - 7168)) / 1024 % 256 = b.val; omega)
        | ⟨2, _⟩ => exact Fin.ext (by show ((a.val * 256 + b.val) * 1024 + (Q.val - 7168)) / 128 % 8 = (Q.val - 7168) / 128; omega)
        | ⟨3, _⟩ => exact Fin.ext (by show ((a.val * 256 + b.val) * 1024 + (Q.val - 7168)) % 128 = Q.val % 128; omega)

/-- Flattened to 1792 rows, likewise. -/
theorem v88_eq (a : Fin 7) (b : Fin 256) (Q : Fin 8192) :
    val_main_v88 (F := Ideal) x0 x1 x2 x3 (ix2 (flatRow a b) Q) = target x0 x1 x2 (cosAt x3) (sinAt x3) a b Q := by
  rw [val_main_v88_apply, ← v53_eq]
  have hQ := Q.isLt
  have hb := b.isLt
  refine congrArg _ (funext fun d => ?_)
  match d with
  | ⟨0, _⟩ => exact Fin.ext (by show ((a.val * 256 + b.val) * 8192 + Q.val) / 2097152 = a.val; omega)
  | ⟨1, _⟩ => exact Fin.ext (by show ((a.val * 256 + b.val) * 8192 + Q.val) / 8192 % 256 = b.val; omega)
  | ⟨2, _⟩ => exact Fin.ext (by show ((a.val * 256 + b.val) * 8192 + Q.val) % 8192 = Q.val; omega)

end

end Cert.ReferenceIdeal.Hand

end
-- ==== Proof.Exponent.lean ====
/- The two programs' power-of-two scale over the extended reals: the exponent counted from the powers of two below a value is the
   floor of its base-two logarithm plus one, and the pattern built from an exponent denotes that power of two. -/
module

public import Idealize.ShloMosaic.PureOps.Ideal
public import Idealize.ShloMosaic.PureOps.Ideal.Laws

@[expose] public section

set_option maxRecDepth 16384

noncomputable section

namespace Cert.Hand

open Idealize.ShloMosaic

/-- The three fields of the pattern `f` shifted to the exponent's place. -/
theorem field_facts : ∀ f : Fin 256, (BitVec.ofNat 32 f.val <<< 23).extractLsb' 31 1 = 0#1
    ∧ ((BitVec.ofNat 32 f.val <<< 23).extractLsb' 23 8).toNat = f.val ∧ ((BitVec.ofNat 32 f.val <<< 23).extractLsb' 0 23).toNat = 0 := by
  decide +kernel

/-- The pattern with exponent field `f` and nothing else denotes `2 ^ (f - 127)`, with zero at field 0 and infinity at field 255. -/
theorem pattern (f : Nat) (hf : f < 256) : (Ideal.ofBits .f32 (BitVec.ofNat 32 f <<< 23) : EReal)
    = if f = 255 then ⊤ else if f = 0 then 0 else (((2 : ℝ) ^ ((f : ℤ) - 127) : ℝ) : EReal) := by
  obtain ⟨h1, h2, h3⟩ := field_facts ⟨f, hf⟩
  dsimp only at h1 h2 h3
  have key : Ideal.ieee 8 23 (BitVec.ofNat 32 f <<< 23)
      = if f = 255 then ⊤ else if f = 0 then 0 else (((2 : ℝ) ^ ((f : ℤ) - 127) : ℝ) : EReal) := by
    unfold Ideal.ieee
    generalize BitVec.ofNat 32 f <<< 23 = b at *
    simp only [Nat.reduceAdd, h1, h2, h3]
    have n01 : ((0#1 == 1#1) = true) = False := by simp
    simp only [n01, if_false, if_true]
    by_cases h : f = 255
    · rw [if_pos (by omega), if_pos h]
    · by_cases h0 : f = 0
      · rw [if_neg (by omega), if_pos h0, if_neg h, if_pos h0]
        norm_num
      · rw [if_neg (by omega), if_neg h0, if_neg h, if_neg h0]
        congr 1
        have e : ((f : ℤ) - 127) = 23 + ((f : ℤ) - 127 - 23) := by ring
        rw [e, zpow_add₀ (by norm_num : (2 : ℝ) ≠ 0)]
        norm_num
  exact key

/-- The floor of the base-two logarithm of a real. -/
def ilog (r : ℝ) : ℤ := ⌊Real.log r / Real.log 2⌋

/-- A power of two is at most a positive real exactly when its exponent is at most the logarithm's floor. -/
theorem zpow_le (r : ℝ) (hr : 0 < r) (z : ℤ) : (2 : ℝ) ^ z ≤ r ↔ z ≤ ilog r := by
  have h2 : (0 : ℝ) < Real.log 2 := Real.log_pos (by norm_num)
  unfold ilog
  rw [Int.le_floor, le_div_iff₀ h2, ← Real.log_zpow, Real.log_le_log_iff (by positivity) hr]

/-- The exponent the reference computes from `a`: the floor of `log a / log 2`, plus one. -/
def logExp (a : EReal) : EReal := Ideal.liftRound Int.floor (Ideal.div (Ideal.log a) (Ideal.log (2 : ℝ))) + 1

/-- At a positive real it is the integer logarithm plus one. -/
theorem logExp_pos (r : ℝ) (hr : 0 < r) : logExp (r : EReal) = ((((ilog r + 1 : ℤ) : ℝ)) : EReal) := by
  have h2 : (0 : ℝ) < Real.log 2 := Real.log_pos (by norm_num)
  unfold logExp
  rw [Ideal.log_coe, if_neg (not_le.mpr hr), Ideal.log_coe, if_neg (by norm_num)]
  unfold Ideal.div
  rw [if_neg (by exact_mod_cast h2.ne'), ← EReal.coe_inv, ← EReal.coe_mul, ← div_eq_mul_inv]
  show ((⌊Real.log r / Real.log 2⌋ : ℝ) : EReal) + 1 = _
  push_cast
  rfl

theorem logExp_zero : logExp 0 = ⊥ := by
  have h2 : (0 : ℝ) < Real.log 2 := Real.log_pos (by norm_num)
  unfold logExp
  have : Ideal.log (0 : EReal) = ⊥ := by rw [← EReal.coe_zero, Ideal.log_coe, if_pos le_rfl]
  rw [this, Ideal.log_coe, if_neg (by norm_num)]
  unfold Ideal.div
  rw [if_neg (by exact_mod_cast h2.ne'), ← EReal.coe_inv, EReal.bot_mul_coe_of_pos (inv_pos.mpr h2)]
  rfl

theorem logExp_top : logExp ⊤ = ⊤ := by
  have h2 : (0 : ℝ) < Real.log 2 := Real.log_pos (by norm_num)
  unfold logExp
  rw [Ideal.log_top, Ideal.log_coe, if_neg (by norm_num)]
  unfold Ideal.div
  rw [if_neg (by exact_mod_cast h2.ne'), ← EReal.coe_inv, EReal.top_mul_coe_of_pos (inv_pos.mpr h2)]
  rfl

/-- How many of the powers `2 ^ -126, ..., 2 ^ 127` are at most `a`. -/
def countPow (a : EReal) : Nat := ((Finset.univ : Finset (Fin 254)).filter fun i => (((2 : ℝ) ^ ((i.val : ℤ) - 126) : ℝ) : EReal) ≤ a).card

theorem count_zero : countPow 0 = 0 := by
  unfold countPow
  rw [Finset.card_eq_zero, Finset.filter_eq_empty_iff]
  intro i _
  rw [not_le, ← EReal.coe_zero, EReal.coe_lt_coe_iff]
  positivity

theorem count_pos (r : ℝ) (hr : 0 < r) : (countPow (r : EReal) : ℤ) = max 0 (min 254 (ilog r + 127)) := by
  unfold countPow
  have e : ((Finset.univ : Finset (Fin 254)).filter fun i => (((2 : ℝ) ^ ((i.val : ℤ) - 126) : ℝ) : EReal) ≤ (r : EReal))
      = (Finset.univ : Finset (Fin 254)).filter fun i => i.val < (ilog r + 127).toNat := by
    refine Finset.filter_congr fun i _ => ?_
    rw [EReal.coe_le_coe_iff]
    rw [zpow_le r hr]
    omega
  rw [e]
  have : ((Finset.univ : Finset (Fin 254)).filter fun i => i.val < (ilog r + 127).toNat).card = min 254 (ilog r + 127).toNat := by
    rw [Fin.card_filter_val_lt]
  rw [this]
  omega

/-- Half of `a` reaching `2 ^ 127` is the integer logarithm reaching 128. -/
theorem half_ge (r : ℝ) (hr : 0 < r) : (((2 : ℝ) ^ (127 : ℤ) : ℝ) : EReal) ≤ (r : EReal) * (((2 : ℝ) ^ (-1 : ℤ) : ℝ) : EReal) ↔ 128 ≤ ilog r := by
  rw [← zpow_le r hr, ← EReal.coe_mul, EReal.coe_le_coe_iff]
  have e : (2 : ℝ) ^ (128 : ℤ) = 2 ^ (127 : ℤ) * 2 := by norm_num
  rw [e, zpow_neg_one]
  constructor <;> intro h <;> linarith

/-- The exponent counted, as an integer: zero when no power or when half the value reaches the top power. -/
def countExp (a : EReal) : ℤ :=
  if countPow a = 0 ∨ (((2 : ℝ) ^ (127 : ℤ) : ℝ) : EReal) ≤ a * (((2 : ℝ) ^ (-1 : ℤ) : ℝ) : EReal) then 0 else (countPow a : ℤ) - 126

/-- The exponent by the logarithm, zero outside `-125 ... 128`. -/
def logExpKept (a : EReal) : EReal := if ((-125 : ℝ) : EReal) ≤ logExp a ∧ logExp a ≤ ((128 : ℝ) : EReal) then logExp a else 0

/-- The two exponents agree at every value from zero up. -/
theorem countExp_eq (a : EReal) (ha : 0 ≤ a) : logExpKept a = ((countExp a : ℝ) : EReal) ∧ -125 ≤ countExp a ∧ countExp a ≤ 128 := by
  unfold logExpKept
  induction a using EReal.rec with
  | bot => exact absurd ha (by simp)
  | top =>
    rw [logExp_top, if_neg (by intro h; exact absurd h.2 (by simp))]
    have : countExp ⊤ = 0 := by
      unfold countExp
      rw [if_pos (Or.inr _)]
      rw [EReal.top_mul_coe_of_pos (by positivity)]
      exact le_top
    rw [this]; simp
  | coe r =>
    rcases (EReal.coe_nonneg.mp ha).eq_or_lt with h | h
    · subst h
      rw [EReal.coe_zero, logExp_zero, if_neg (by intro h; exact absurd h.1 (by simp))]
      have : countExp 0 = 0 := by
        unfold countExp
        rw [if_pos (Or.inl count_zero)]
      rw [this]; simp
    · rw [logExp_pos r h]
      have hc := count_pos r h
      have hh := half_ge r h
      unfold countExp
      simp only [hh]
      have e1 : ((-125 : ℝ) : EReal) ≤ (((ilog r + 1 : ℤ) : ℝ) : EReal) ↔ -125 ≤ ilog r + 1 := by
        rw [EReal.coe_le_coe_iff, show (-125 : ℝ) = ((-125 : ℤ) : ℝ) by norm_num, Int.cast_le]
      have e2 : (((ilog r + 1 : ℤ) : ℝ) : EReal) ≤ ((128 : ℝ) : EReal) ↔ ilog r + 1 ≤ 128 := by
        rw [EReal.coe_le_coe_iff, show (128 : ℝ) = ((128 : ℤ) : ℝ) by norm_num, Int.cast_le]
      simp only [e1, e2]
      generalize ilog r = k at *
      generalize countPow (r : EReal) = n at *
      by_cases hk : -125 ≤ k + 1 ∧ k + 1 ≤ 128
      · rw [if_pos hk, if_neg (by omega)]
        have : (n : ℤ) - 126 = k + 1 := by omega
        rw [this]
        exact ⟨rfl, hk⟩
      · rw [if_neg hk, if_pos (by omega)]
        simp

/-- The power of two an exponent denotes in the format: zero below `2 ^ -126`, infinity above `2 ^ 127`. -/
def twoTo (e : ℤ) : EReal := if e < -126 then 0 else if 127 < e then ⊤ else (((2 : ℝ) ^ e : ℝ) : EReal)

/-- The pattern with exponent field `e + 127`, clipped to `0 ... 255`, denotes it. -/
theorem pattern_clip (e : ℤ) : (Ideal.ofBits .f32 (BitVec.ofNat 32 (max 0 (min 255 (e + 127))).toNat <<< 23) : EReal) = twoTo e := by
  rw [pattern _ (by omega)]
  unfold twoTo
  by_cases h1 : e < -126
  · rw [if_neg (by omega), if_pos (by omega), if_pos h1]
  · by_cases h2 : 127 < e
    · rw [if_pos (by omega), if_neg h1, if_pos h2]
    · rw [if_neg (by omega), if_neg (by omega), if_neg h1, if_neg h2]
      congr 3
      omega

/-- The reference's power of two of an exponent it holds as a number. -/
theorem powTwo (e : ℤ) : (if ((e : ℝ) : EReal) < ((-126 : ℝ) : EReal) then (0 : EReal) else if ((127 : ℝ) : EReal) < ((e : ℝ) : EReal) then ⊤
    else Ideal.pow ((2 : ℝ) : EReal) ((e : ℝ) : EReal)) = twoTo e := by
  unfold twoTo
  have e1 : ((e : ℝ) : EReal) < ((-126 : ℝ) : EReal) ↔ e < -126 := by
    rw [EReal.coe_lt_coe_iff, show (-126 : ℝ) = ((-126 : ℤ) : ℝ) by norm_num, Int.cast_lt]
  have e2 : ((127 : ℝ) : EReal) < ((e : ℝ) : EReal) ↔ 127 < e := by
    rw [EReal.coe_lt_coe_iff, show (127 : ℝ) = ((127 : ℤ) : ℝ) by norm_num, Int.cast_lt]
  simp only [e1, e2, Ideal.pow_coe_coe]
  have : Real.rpow 2 (e : ℝ) = (2 : ℝ) ^ e := Real.rpow_intCast 2 e
  rw [this]

end Cert.Hand

end
-- ==== Proof.ScaleKernel.lean ====
/- The kernel program's scale and its inverse: the powers of two of the counted exponent and of its negation. -/
module

public import proofs.«01_k».proof.Proof.KernelVals
public import proofs.«01_k».proof.Proof.Exponent
public import Idealize.ShloMosaic.PureOps.Reduce
public import Idealize.ShloMosaic.Lib.IndicatorCount

@[expose] public section

set_option maxRecDepth 16384

noncomputable section

namespace Cert.KernelIdeal.Hand

open Cert.KernelIdeal Cert.KernelIdeal.Gen Cert.KernelIdeal.Vals Cert.Hand
open Idealize.ShloMosaic Idealize.ShloMosaic.TcCoe Idealize.SL.Sem

/-- The amax history as the program is given it. -/
abbrev Hist := (⟨S16, .f32⟩ : BufTy).Contents (Elt Ideal)

/-- The one index of a scalar. -/
def z : S_.Idx := Shape.Idx.first h_S_

theorem z_eq (i : S_.Idx) : i = z := funext fun a => a.elim0

/-- The largest of the history. -/
def amax (x4 : Hist) : EReal := val_main_v22 (F := Ideal) x4 z

/-- The largest of the history over 448, without its sign: the value whose exponent is taken. -/
def ratio (x4 : Hist) : EReal := FloatOps.absf (F := Ideal) (φ := .f32) (val_main_v23 (F := Ideal) x4 z)

theorem ratio_nonneg (x4 : Hist) : 0 ≤ ratio x4 := by
  unfold ratio
  generalize val_main_v23 (F := Ideal) x4 z = y
  show (0 : EReal) ≤ max (y : EReal) (-(y : EReal))
  rcases le_total (0 : EReal) y with h | h
  · exact le_max_of_le_left h
  · exact le_max_of_le_right (EReal.neg_nonneg.mpr h)

/-- The power of two the program compares with at place `i`. -/
theorem power (i : S254.Idx) : (val_main_v29 (F := Ideal) i : EReal) = (((2 : ℝ) ^ (((i 0).val : ℤ) - 126) : ℝ) : EReal) := by
  have hi : (i 0).val < 254 := (i 0).isLt
  have e : val_main_v28 (F := Ideal) i = BitVec.ofNat 32 ((i 0).val + 1) <<< 23 := by
    rw [val_main_v28_apply, val_main_v27_apply, val_main_v26_apply, val_main_v25_apply, val_main_v24_apply]
    show IntOp.shli .host (IntOp.addi 1#32 (BitVec.ofNat 32 (i 0).val)) 23#32 = _
    unfold IntOp.shli IntOp.addi
    rw [BitVec.ofNat_add, BitVec.add_comm]
    rfl
  rw [val_main_v29_apply, e]
  show Ideal.ofBits .f32 _ = _
  rw [pattern _ (by omega), if_neg (by omega), if_neg (by omega)]
  congr 2
  push_cast
  ring

/-- The program's count. -/
theorem v34_eq (x4 : Hist) (j : S_.Idx) : val_main_v34 (F := Ideal) x4 j = BitVec.ofNat 32 (countPow (ratio x4)) := by
  unfold val_main_v34
  rw [Host.reduce_eq_fold]
  have all : (Finset.univ.filter fun i => reducesTo_S254_S_d0.drop i = j) = (Finset.univ : Finset S254.Idx) :=
    Finset.filter_true_of_mem fun i _ => funext fun a => a.elim0
  rw [all]
  refine (Idealize.ShloMosaic.IndicatorCount.fold_addi_setWidth_eq_card
    (fun k : S254.Idx => val_main_v32 (F := Ideal) x4 k) Finset.univ).trans ?_
  unfold countPow
  congr 1
  have mem : ∀ i : S254.Idx, val_main_v32 (F := Ideal) x4 i = 1#1 ↔ (((2 : ℝ) ^ (((i 0).val : ℤ) - 126) : ℝ) : EReal) ≤ ratio x4 := by
    intro i
    rw [val_main_v32_apply, val_main_v31_apply, val_main_v30_apply, z_eq (idx_main_v31 _), ← power]
    show BitVec.ofBool (decide ((val_main_v29 (F := Ideal) i : EReal) ≤ ratio x4)) = 1#1 ↔ _
    by_cases h : (val_main_v29 (F := Ideal) i : EReal) ≤ ratio x4
    · simp only [h]; simp
    · simp only [h]; simp
  refine Finset.card_bij (fun i _ => (i 0 : Fin 254)) ?_ ?_ ?_
  · intro i hi
    exact Finset.mem_filter.mpr ⟨Finset.mem_univ _, (mem i).mp (Finset.mem_filter.mp hi).2⟩
  · intro i _ i' _ h
    funext a
    obtain rfl : a = 0 := Subsingleton.elim a 0
    exact h
  · intro k hk
    refine ⟨fun a => ⟨k.val, by have := k.isLt; obtain rfl : a = 0 := Subsingleton.elim a 0; exact this⟩, ?_, rfl⟩
    exact Finset.mem_filter.mpr ⟨Finset.mem_univ _, (mem _).mpr (Finset.mem_filter.mp hk).2⟩

theorem half : (Ideal.ofBits .f32 0x3F000000#32 : EReal) = (((2 : ℝ) ^ (-1 : ℤ) : ℝ) : EReal) := by
  have := pattern 126 (by omega)
  rw [show (0x3F000000#32) = BitVec.ofNat 32 126 <<< 23 by decide, this]
  norm_num

theorem top_power : (Ideal.ofBits .f32 0x7F000000#32 : EReal) = (((2 : ℝ) ^ (127 : ℤ) : ℝ) : EReal) := by
  have := pattern 254 (by omega)
  rw [show (0x7F000000#32) = BitVec.ofNat 32 254 <<< 23 by decide, this]
  norm_num

theorem zero_word : (Ideal.ofBits .f32 0x00000000#32 : EReal) = 0 := by
  have := pattern 0 (by omega)
  rw [show (0x00000000#32) = BitVec.ofNat 32 0 <<< 23 by decide, this]
  norm_num

/-- The exponent taken: zero when the largest of the history is zero, the counted exponent otherwise. -/
def exponent (x4 : Hist) : ℤ := if amax x4 = 0 then 0 else countExp (ratio x4)

theorem exponent_range (x4 : Hist) : -125 ≤ exponent x4 ∧ exponent x4 ≤ 128 := by
  unfold exponent
  split
  · omega
  · exact (countExp_eq _ (ratio_nonneg x4)).2

theorem count_lt (a : EReal) : countPow a ≤ 254 := by
  unfold countPow
  exact (Finset.card_filter_le _ _).trans (by simp)

/-- The program's exponent word. -/
theorem v43_eq (x4 : Hist) (j : S_.Idx) : val_main_v43 (F := Ideal) x4 j = BitVec.ofInt 32 (exponent x4) := by
  rw [val_main_v43_apply, val_main_v42_apply, val_main_v41_apply, val_main_v40_apply, val_main_v39_apply, val_main_v38_apply, val_main_v37_apply,
    val_main_v36_apply, val_main_v35_apply, v34_eq, z_eq j]
  have hn := count_lt (ratio x4)
  unfold exponent countExp
  show Scalar.select (BitVec.ofBool (decide (amax x4 = (Ideal.ofBits .f32 0x00000000#32 : EReal)))) 0#32
    (Scalar.select (BitVec.ofBool (BitVec.ofNat 32 (countPow (ratio x4)) == 0#32)
        ||| BitVec.ofBool (decide ((Ideal.ofBits .f32 0x7F000000#32 : EReal) ≤ ratio x4 * (Ideal.ofBits .f32 0x3F000000#32 : EReal))))
      0#32 (BitVec.ofNat 32 (countPow (ratio x4)) - 126#32)) = _
  rw [zero_word, top_power, half]
  generalize countPow (ratio x4) = n at *
  have e0 : (BitVec.ofNat 32 n == 0#32) = decide (n = 0) := by
    rw [Bool.eq_iff_iff]
    simp only [beq_iff_eq, decide_eq_true_eq]
    constructor
    · intro h
      have := congrArg BitVec.toNat h
      simp at this
      omega
    · rintro rfl; rfl
  have e1 : BitVec.ofNat 32 n - 126#32 = BitVec.ofInt 32 ((n : ℤ) - 126) := by
    have key : ∀ k : Fin 255, BitVec.ofNat 32 k.val - 126#32 = BitVec.ofInt 32 ((k.val : ℤ) - 126) := by decide +kernel
    exact key ⟨n, by omega⟩
  rw [e0, e1]
  unfold Scalar.select
  by_cases h0 : amax x4 = 0
  · simp [h0]
  · by_cases h1 : n = 0
    · have one_or : ∀ b : Bool, 1#1 ||| BitVec.ofBool b = 1#1 := by decide
      simp [h0, h1, one_or]
    · by_cases h2 : (((2 : ℝ) ^ (127 : ℤ) : ℝ) : EReal) ≤ ratio x4 * (((2 : ℝ) ^ (-1 : ℤ) : ℝ) : EReal)
      · simp only [h0, h1, h2]; simp
      · simp only [h0, h1, h2]; simp

/-- Adding 127 to a small exponent's word and clipping it to `0 ... 255`. -/
theorem clip_word (e : ℤ) (h : -128 ≤ e) (h' : e ≤ 128) :
    IntOp.minsi 255#32 (IntOp.maxsi 0#32 (IntOp.addi (BitVec.ofInt 32 e) 127#32)) = BitVec.ofNat 32 (max 0 (min 255 (e + 127))).toNat := by
  have key : ∀ k : Fin 257, IntOp.minsi 255#32 (IntOp.maxsi 0#32 (IntOp.addi (BitVec.ofInt 32 ((k.val : ℤ) - 128)) 127#32))
      = BitVec.ofNat 32 (max 0 (min 255 (((k.val : ℤ) - 128) + 127))).toNat := by decide +kernel
  have := key ⟨(e + 128).toNat, by omega⟩
  dsimp only at this
  rwa [show (((e + 128).toNat : ℤ) - 128) = e by omega] at this

/-- The kernel's scale is the power of two of the exponent. -/
theorem v47_eq (x4 : Hist) (j : S_.Idx) : (val_main_v47 (F := Ideal) x4 j : EReal) = twoTo (exponent x4) := by
  have hr := exponent_range x4
  rw [← pattern_clip, ← clip_word _ (by omega) hr.2, ← v43_eq x4 j]
  rfl

/-- The kernel's inverse scale is the power of two of the exponent negated. -/
theorem v52_eq (x4 : Hist) (j : S_.Idx) : (val_main_v52 (F := Ideal) x4 j : EReal) = twoTo (-exponent x4) := by
  have hr := exponent_range x4
  rw [← pattern_clip, ← clip_word _ (by omega) (by omega), BitVec.ofInt_neg, ← v43_eq x4 j]
  rfl

end Cert.KernelIdeal.Hand

end
-- ==== Proof.ScaleRef.lean ====
/- The reference's scale and its inverse: the powers of two of the exponent its logarithm gives, which is the exponent the kernel
   program counts. -/
module

public import proofs.«01_k».proof.Proof.RefVals
public import proofs.«01_k».proof.Proof.ScaleKernel

@[expose] public section

set_option maxRecDepth 16384

noncomputable section

namespace Cert.ReferenceIdeal.Hand

open Cert.ReferenceIdeal Cert.ReferenceIdeal.Gen Cert.ReferenceIdeal.Vals Cert.Hand
open Idealize.ShloMosaic Idealize.ShloMosaic.TcCoe Idealize.SL.Sem

/-- The amax history as the reference is given it. -/
abbrev Hist := (⟨S16, .f32⟩ : BufTy).Contents (Elt Ideal)

theorem z_eq (i : S_.Idx) : i = Cert.KernelIdeal.Hand.z := funext fun a => a.elim0

/-- The largest of the history, as in the kernel program. -/
theorem v54_eq (x4 : Hist) (j : S_.Idx) : (val_main_v54 (F := Ideal) x4 j : EReal) = Cert.KernelIdeal.Hand.amax x4 := by
  rw [z_eq j]
  rfl

/-- Its ratio to 448 without the sign, as in the kernel program. -/
theorem v56_eq (x4 : Hist) (j : S_.Idx) : (val_main_v56 (F := Ideal) x4 j : EReal) = Cert.KernelIdeal.Hand.ratio x4 := by
  rw [z_eq j]
  rfl

theorem lit_two : (Ideal.ofBits .f32 0x40000000#32 : EReal) = ((2 : ℝ) : EReal) := by
  simp [Ideal.ofBits, Ideal.ieee, -EReal.coe_mul]; norm_num
theorem lit_one : (Ideal.ofBits .f32 0x3F800000#32 : EReal) = 1 := by
  simp [Ideal.ofBits, Ideal.ieee, -EReal.coe_mul]; norm_num
theorem lit_lo : (Ideal.ofBits .f32 0xC2FA0000#32 : EReal) = ((-125 : ℝ) : EReal) := by
  simp [Ideal.ofBits, Ideal.ieee, -EReal.coe_mul]; norm_num
theorem lit_hi : (Ideal.ofBits .f32 0x43000000#32 : EReal) = ((128 : ℝ) : EReal) := by
  simp [Ideal.ofBits, Ideal.ieee, -EReal.coe_mul]; norm_num
theorem lit_least : (Ideal.ofBits .f32 0xC2FC0000#32 : EReal) = ((-126 : ℝ) : EReal) := by
  simp [Ideal.ofBits, Ideal.ieee, -EReal.coe_mul]; norm_num
theorem lit_greatest : (Ideal.ofBits .f32 0x42FE0000#32 : EReal) = ((127 : ℝ) : EReal) := by
  simp [Ideal.ofBits, Ideal.ieee, -EReal.coe_mul]; norm_num
theorem lit_inf : (Ideal.ofBits .f32 0x7F800000#32 : EReal) = ⊤ := by
  simp [Ideal.ofBits, Ideal.ieee]

/-- A selection on a decided test is the `if` on it. -/
theorem select_ofBool {α : Type} (p : Prop) [Decidable p] (x y : α) : Scalar.select (BitVec.ofBool (decide p)) x y = if p then x else y := by
  unfold Scalar.select
  by_cases h : p <;> simp [h]

/-- The exponent before it is restricted. -/
theorem v62_eq (x4 : Hist) (j : S_.Idx) : (val_main_v62 (F := Ideal) x4 j : EReal) = logExp (Cert.KernelIdeal.Hand.ratio x4) := by
  rw [val_main_v62_apply, val_main_v61_apply, val_main_v60_apply, val_main_v59_apply, val_main_v58_apply, val_main_v57_apply]
  show Ideal.liftRound Int.floor (Ideal.div (Ideal.log (val_main_v56 (F := Ideal) x4 j : EReal)) (Ideal.log (Ideal.ofBits .f32 0x40000000#32 : EReal)))
    + (Ideal.ofBits .f32 0x3F800000#32 : EReal) = _
  rw [v56_eq, lit_two, lit_one]
  rfl

/-- The reference's exponent is the one the kernel program counts. -/
theorem v68_eq (x4 : Hist) (j : S_.Idx) : (val_main_v68 (F := Ideal) x4 j : EReal) = ((Cert.KernelIdeal.Hand.exponent x4 : ℝ) : EReal) := by
  have h66 : (val_main_v66 (F := Ideal) x4 j : EReal) = logExpKept (Cert.KernelIdeal.Hand.ratio x4) := by
    rw [val_main_v66_apply, val_main_v65_apply, val_main_v64_apply, val_main_v63_apply]
    show Scalar.select (BitVec.ofBool (decide ((Ideal.ofBits .f32 0xC2FA0000#32 : EReal) ≤ (val_main_v62 (F := Ideal) x4 j : EReal)))
      &&& BitVec.ofBool (decide ((val_main_v62 (F := Ideal) x4 j : EReal) ≤ (Ideal.ofBits .f32 0x43000000#32 : EReal))))
      (val_main_v62 (F := Ideal) x4 j : EReal) (Ideal.ofBits .f32 0x00000000#32 : EReal) = _
    rw [v62_eq, lit_lo, lit_hi, Cert.KernelIdeal.Hand.zero_word]
    have e : ∀ p q : Prop, ∀ [Decidable p] [Decidable q], BitVec.ofBool (decide p) &&& BitVec.ofBool (decide q) = BitVec.ofBool (decide (p ∧ q)) := by
      intro p q _ _
      by_cases hp : p <;> by_cases hq : q <;> simp [hp, hq]
    rw [e, select_ofBool]
    rfl
  rw [val_main_v68_apply, val_main_v67_apply]
  show Scalar.select (BitVec.ofBool (decide ((val_main_v54 (F := Ideal) x4 j : EReal) = (Ideal.ofBits .f32 0x00000000#32 : EReal))))
    (Ideal.ofBits .f32 0x00000000#32 : EReal) (val_main_v66 (F := Ideal) x4 j : EReal) = _
  rw [h66, v54_eq, Cert.KernelIdeal.Hand.zero_word, select_ofBool, (countExp_eq _ (Cert.KernelIdeal.Hand.ratio_nonneg x4)).1]
  unfold Cert.KernelIdeal.Hand.exponent
  split <;> simp

/-- The reference's scale is the kernel program's. -/
theorem v73_eq (x4 : Hist) (j : S_.Idx) : (val_main_v73 (F := Ideal) x4 j : EReal) = twoTo (Cert.KernelIdeal.Hand.exponent x4) := by
  rw [val_main_v73_apply, val_main_v72_apply, val_main_v71_apply, val_main_v70_apply, val_main_v69_apply]
  show Scalar.select (BitVec.ofBool (decide ((val_main_v68 (F := Ideal) x4 j : EReal) < (Ideal.ofBits .f32 0xC2FC0000#32 : EReal))))
    (Ideal.ofBits .f32 0x00000000#32 : EReal)
    (Scalar.select (BitVec.ofBool (decide ((Ideal.ofBits .f32 0x42FE0000#32 : EReal) < (val_main_v68 (F := Ideal) x4 j : EReal))))
      (Ideal.ofBits .f32 0x7F800000#32 : EReal) (Ideal.pow (Ideal.ofBits .f32 0x40000000#32 : EReal) (val_main_v68 (F := Ideal) x4 j : EReal))) = _
  rw [v68_eq, lit_least, lit_greatest, lit_inf, lit_two, Cert.KernelIdeal.Hand.zero_word, select_ofBool, select_ofBool]
  exact powTwo _

/-- The reference's inverse scale is the kernel program's. -/
theorem v79_eq (x4 : Hist) (j : S_.Idx) : (val_main_v79 (F := Ideal) x4 j : EReal) = twoTo (-Cert.KernelIdeal.Hand.exponent x4) := by
  have h74 : (val_main_v74 (F := Ideal) x4 j : EReal) = (((-Cert.KernelIdeal.Hand.exponent x4 : ℤ) : ℝ) : EReal) := by
    rw [val_main_v74_apply]
    show -(val_main_v68 (F := Ideal) x4 j : EReal) = _
    rw [v68_eq]
    push_cast
    rfl
  rw [val_main_v79_apply, val_main_v78_apply, val_main_v77_apply, val_main_v76_apply, val_main_v75_apply]
  show Scalar.select (BitVec.ofBool (decide ((val_main_v74 (F := Ideal) x4 j : EReal) < (Ideal.ofBits .f32 0xC2FC0000#32 : EReal))))
    (Ideal.ofBits .f32 0x00000000#32 : EReal)
    (Scalar.select (BitVec.ofBool (decide ((Ideal.ofBits .f32 0x42FE0000#32 : EReal) < (val_main_v74 (F := Ideal) x4 j : EReal))))
      (Ideal.ofBits .f32 0x7F800000#32 : EReal) (Ideal.pow (Ideal.ofBits .f32 0x40000000#32 : EReal) (val_main_v74 (F := Ideal) x4 j : EReal))) = _
  rw [h74, lit_least, lit_greatest, lit_inf, lit_two, Cert.KernelIdeal.Hand.zero_word, select_ofBool, select_ofBool]
  exact powTwo _

end Cert.ReferenceIdeal.Hand

end
-- ==== Proof.KernelDx.lean ====
/- Region 1's output array over the ideal elements: the product of the codes with the weight's codes, contracted over 8192, times the scale. -/
module

public import proofs.«01_k».proof.Proof.KernelRegion0
public import Idealize.ShloMosaic.Lib.MatmulPlain
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open scoped BigOperators

section AnyElements
variable {F : FTy → Type} [FloatOps F]

/-- The body leaves the scaled product of the blocks it reads. -/
theorem out1_A3 (c : Dev nD) (i : grid1.Coords) (arg2 : Memref sig .tc .smem S1 .f32) (harg2 : arg2.IsWhole) (arg3 : Memref sig .tc .vmem S896x8192 .fp8e5m2) (harg3 : arg3.IsWhole) (arg4 : Memref sig .tc .vmem S512x8192 .fp8e4m3) (harg4 : arg4.IsWhole) (arg5 : Memref sig .tc .vmem S896x512 .bf16) (harg5 : arg5.IsWhole)
    (x0 : Vec F S1 .f32) (x1 : Vec F S896x8192 .fp8e5m2) (x2 : Vec F S512x8192 .fp8e4m3) :
    out1_A_3 c i arg2 harg2 arg3 harg3 arg4 harg4 arg5 harg5 x0 x1 x2 = k1_pay1 x1 x2 (x0 one) := by
  unfold out1_A_3
  rw [View.read_writes_eq_canon _ _ _ (cover1_A_3 c i arg2 harg2 arg3 harg3 arg4 harg4 arg5 harg5 x0 x1 x2)]
  unfold kernelRun1_A
  dsimp only
  sl_unfold_words
  rw [View.canon_unit_zero hz]
  simp only [View.readAt_eq_ld, harg2.read_unread, harg3.read_unread, harg4.read_unread, View.ld_unit_zero (S := S896x8192) hz, View.ld_unit_zero (S := S512x8192) hz]
  exact congrArg (k1_pay1 x1 x2) (ld_one x0 _)
end AnyElements

/-- The product's array at row `R`, column `N`: the sum over the 8192 contracted positions, times the scale. -/
def wholeDx (A : S1792x8192.Idx → EReal) (B : S6144x8192.Idx → EReal) (s : EReal) : S1792x6144.Idx → EReal :=
  fun i => (∑ k : Fin 8192, A (ix2 (i 0) k) * B (ix2 (i 1) k)) * s

theorem dot_eq : dot_S896x8192_S512x8192_S896x512_1_1_0_0_n_n = DotDims.transposedRhs 896 8192 512 := rfl

/-- The two spellings of a pair of coordinates are one index. -/
theorem ix_eq {m n : Nat} (a : Fin m) (b : Fin n) : ValueIdx.ix2 a b = ix2 a b := by
  funext i
  match i with
  | ⟨0, _⟩ => rfl
  | ⟨1, _⟩ => rfl

/-- The body's payload at an index. -/
theorem k1_pay1_apply (x : Vec Ideal S896x8192 .fp8e5m2) (y : Vec Ideal S512x8192 .fp8e4m3) (s : EReal) (r : Fin 896) (n : Fin 512) :
    (k1_pay1 (F := Ideal) x y s (ix2 r n) : EReal) = (∑ k : Fin 8192, (x (ix2 r k) : EReal) * (y (ix2 n k) : EReal)) * s := by
  show (FloatOps.matmul (F := Ideal) (φ₁ := .fp8e5m2) (φ₂ := .fp8e4m3) dot_S896x8192_S512x8192_S896x512_1_1_0_0_n_n none (shapeCast S896x8192 x shapeCasts_S896x8192_S896x8192) y
    (constant S896x512 .f32 0x00000000#32) (ix2 r n) : EReal) * s = _
  have hm := Ideal.matmul_transposedRhs_apply (φ₁ := .fp8e5m2) (φ₂ := .fp8e4m3) none x y (constant S896x512 .f32 0x00000000#32) r n
  simp only [ix_eq] at hm
  rw [shapeCast_self, dot_eq]
  refine (congrArg (· * s) hm).trans ?_
  have h0 : (constant (F := Ideal) S896x512 .f32 0x00000000#32 (ix2 r n) : EReal) = 0 := by
    show (FloatOps.ofBits (F := Ideal) .f32 0x00000000#32 : EReal) = 0
    simp [Ideal.ofBits_def, Ideal.ofBits, Ideal.ieee]
  rw [h0, zero_add]

variable (V : (c : Dev nD) → (b : Ref sig .tc) → Buf (Elt Ideal) ((c : Thread nD τ).loc b)) (c : Dev nD)

/-- The windows' block positions: point `t` is row block `t / 12`, column block `t % 12`. -/
theorem idx_facts1 : ∀ t : Fin cfg1.N, win1_0.index t 0 = 0 ∧ win1_1.index t 0 = t.val / 12 ∧ win1_1.index t 1 = 0
    ∧ win1_2.index t 0 = t.val % 12 ∧ win1_2.index t 1 = 0 ∧ win1_3.index t 0 = t.val / 12 ∧ win1_3.index t 1 = t.val % 12 :=
  (by decide +kernel : ∀ t : Fin grid1.N, _)

theorem lt_N1 (t : Fin cfg1.N) : t.val < 24 := by have := t.isLt; have h : cfg1.N = 24 := N_1; omega

/-- The row of the array under row `r` of point `t`'s block. -/
def rowOf1 (t : Fin cfg1.N) (r : Fin 896) : Fin 1792 := ⟨t.val / 12 * 896 + r.val, by have := lt_N1 t; omega⟩
/-- The column of the array under column `n` of point `t`'s block. -/
def colOf1 (t : Fin cfg1.N) (n : Fin 512) : Fin 6144 := ⟨t.val % 12 * 512 + n.val, by omega⟩

theorem read1_0 (t : Fin cfg1.N) : (iblk1 V c 0 t : Vec Ideal S1 .f32) one = (V c main_v60 : S1.Idx → EReal) one := by
  unfold iblk1
  rw [View.read_apply]
  show V c main_v60 _ = _
  congr 1
  funext a
  match a with
  | ⟨0, _⟩ => exact Subsingleton.elim (α := Fin 1) _ _

theorem read1_1 (t : Fin cfg1.N) (r : Fin 896) (k : Fin 8192) :
    (iblk1 V c 1 t : Vec Ideal S896x8192 .fp8e5m2) (ix2 r k) = (V c main_v58_0 : S1792x8192.Idx → EReal) (ix2 (rowOf1 t r) k) := by
  have hi := idx_facts1 t
  unfold iblk1
  rw [View.read_apply]
  show V c main_v58_0 _ = _
  congr 1
  funext a
  apply Fin.ext
  match a with
  | ⟨0, _⟩ => show win1_1.index t 0 * 896 + 1 * r.val = t.val / 12 * 896 + r.val; rw [hi.2.1]; omega
  | ⟨1, _⟩ => show win1_1.index t 1 * 8192 + 1 * k.val = k.val; rw [hi.2.2.1]; omega

theorem read1_2 (t : Fin cfg1.N) (n : Fin 512) (k : Fin 8192) :
    (iblk1 V c 2 t : Vec Ideal S512x8192 .fp8e4m3) (ix2 n k) = (V c main_arg5 : S6144x8192.Idx → EReal) (ix2 (colOf1 t n) k) := by
  have hi := idx_facts1 t
  unfold iblk1
  rw [View.read_apply]
  show V c main_arg5 _ = _
  congr 1
  funext a
  apply Fin.ext
  match a with
  | ⟨0, _⟩ => show win1_2.index t 0 * 512 + 1 * n.val = t.val % 12 * 512 + n.val; rw [hi.2.2.2.1]; omega
  | ⟨1, _⟩ => show win1_2.index t 1 * 8192 + 1 * k.val = k.val; rw [hi.2.2.2.2.1]; omega

/-- The product's array ends at the scaled product of the whole arrays. -/
theorem final1_3 : (dat1 V c).arrAt 3 cfg1.N
    = (wholeDx (V c main_v58_0) (V c main_arg5) ((V c main_v60 : S1.Idx → EReal) one) : S1792x6144.Idx → EReal) := by
  refine (dat1 V c).arrAt_eq_of_cover 3 _ (fun t _ => ?_) fun i => ?_
  · have hi := idx_facts1 t
    show (cfg1.win 3).cut (grid1.coords t) ((dat1 V c).after 3 t) = _
    rw [after1_3]
    unfold outsAt1
    rw [out1_A3]
    funext y
    rw [View.read_apply]
    obtain ⟨r, n, rfl⟩ : ∃ (r : Fin 896) (n : Fin 512), y = ix2 r n := ⟨y 0, y 1, (ix2_eta (n0 := 896) (n1 := 512) y).symm⟩
    have e : ((cfg1.win 3).blk t).view.emb (ix2 r n) = (ix2 (rowOf1 t r) (colOf1 t n) : S1792x6144.Idx) := by
      funext a
      apply Fin.ext
      match a with
      | ⟨0, _⟩ => show win1_3.index t 0 * 896 + 1 * r.val = t.val / 12 * 896 + r.val; rw [hi.2.2.2.2.2.1]; omega
      | ⟨1, _⟩ => show win1_3.index t 1 * 512 + 1 * n.val = t.val % 12 * 512 + n.val; rw [hi.2.2.2.2.2.2]; omega
    show (k1_pay1 (F := Ideal) _ _ _ (ix2 r n) : EReal) = wholeDx _ _ _ _
    rw [e, k1_pay1_apply, read1_0]
    unfold wholeDx
    refine congrArg (· * _) (Finset.sum_congr rfl fun k _ => ?_)
    rw [read1_1, read1_2]
    rfl
  · have h0 : (i 0).val < 1792 := (i 0).isLt
    have h1 : (i 1).val < 6144 := (i 1).isLt
    have hb : (12 * ((i 0).val / 896) + (i 1).val / 512) < cfg1.N := by
      have h : cfg1.N = 24 := N_1
      omega
    have hi := idx_facts1 ⟨_, hb⟩
    refine ⟨⟨_, hb⟩, flush1_3 _, ?_⟩
    show i ∈ ((View.whole main_v61).slice (win1_3.rect ⟨12 * ((i 0).val / 896) + (i 1).val / 512, hb⟩)).set
    rw [View.set_slice_whole, Rect.mem_set_unit]
    intro a
    match a with
    | ⟨0, _⟩ =>
      show win1_3.index ⟨_, hb⟩ 0 * 896 ≤ (i 0).val ∧ (i 0).val < win1_3.index ⟨_, hb⟩ 0 * 896 + 896
      rw [hi.2.2.2.2.2.1]; dsimp only; omega
    | ⟨1, _⟩ =>
      show win1_3.index ⟨_, hb⟩ 1 * 512 ≤ (i 1).val ∧ (i 1).val < win1_3.index ⟨_, hb⟩ 1 * 512 + 512
      rw [hi.2.2.2.2.2.2]; dsimp only; omega

end Cert.KernelIdeal.Hand

end
-- ==== Proof.KernelRun.lean ====
/- The kernel's run: every buffer of the program is, after the run, what the chain of host stretches and regions leaves in it. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel's program ends, and at its end each buffer `b` of core `c` holds `W13 m ρ c b`:
    the contents the host stretches and the two regions leave, in program order, from the launch contents `m`. -/
theorem run : θ_run defs (onTc (τ := τ) (main (F := F))) ⟨m, fun _ => 0, ρ⟩ (fun r => ∀ c : Dev nD, ∀ b ∈ Pipeline.ucRefs τ sig,
      r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.KernelIdeal.Hand

end
-- ==== Proof.KernelHost.lean ====
/- What the buffers of the kernel's program hold at the entry of each region and at the end: the arguments' functions of
   KernelVals.lean, and what the two regions leave in their output arrays. -/
module

public import proofs.«01_k».proof.Proof.KernelVals
public import proofs.«01_k».proof.Proof.KernelRun
public import Idealize.ShloMosaic.Lib.StableHlo.Run

@[expose] public section

set_option maxRecDepth 16384

noncomputable section

namespace Cert.KernelIdeal.Hand

open Cert.KernelIdeal Cert.KernelIdeal.Gen Cert.KernelIdeal.Vals
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The doubled cosine table, after the first stretch of host operations. -/
theorem W1_v19 : W1 m ρ c (Proc.devRef .tc main_v19) = val_main_v19 (F := F) (m ((c : Thread nD τ).loc main_arg3)) := by
  show StableHlo.after hostOps0 _ _ = _
  after_results <;> rfl

/-- The signed sine table, after the first stretch of host operations. -/
theorem W1_v21 : W1 m ρ c (Proc.devRef .tc main_v21) = val_main_v21 (F := F) (m ((c : Thread nD τ).loc main_arg3)) := by
  show StableHlo.after hostOps0 _ _ = _
  after_results <;> rfl

/-- Region 0 enters with the reciprocal scale. -/
theorem W9_v57 : W9 m ρ c (Proc.devRef .tc main_v57) = val_main_v57 (F := F) (m ((c : Thread nD τ).loc main_arg4)) := by
  simp only [W9, W8, W7, W6, W5, W4, W3, W2, W1, hostOps0, hostOps0_1, hostOps0_2, hostOps0_3, hostOps0_4, hostOps0_5, hostOps0_6, hostOps0_7, hostOps0_8, TRef.binary, TRef.ternary, TRef.unary, TRef.toBuf, TRef.ofBuf, cast_eq]
  after_results_simp <;> rfl

/-- The scale at region 0's entry. -/
theorem W9_v47 : W9 m ρ c (Proc.devRef .tc main_v47) = val_main_v47 (F := F) (m ((c : Thread nD τ).loc main_arg4)) := by
  simp only [W9, W8, W7, W6, W5, W4, W3, W2, W1, hostOps0, hostOps0_1, hostOps0_2, hostOps0_3, hostOps0_4, hostOps0_5, hostOps0_6, hostOps0_7, hostOps0_8, TRef.binary, TRef.ternary, TRef.unary, TRef.toBuf, TRef.ofBuf, cast_eq]
  after_results_simp <;> rfl

/-- Region 0 enters with the three gradients side by side. -/
theorem W9_v56 : W9 m ρ c (Proc.devRef .tc main_v56) = val_main_v56 (F := F) (m ((c : Thread nD τ).loc main_arg0)) (m ((c : Thread nD τ).loc main_arg1)) (m ((c : Thread nD τ).loc main_arg2)) := by
  show StableHlo.after hostOps0_8 _ _ = _
  after_results
  rfl

/-- Region 0 enters with the doubled cosine table. -/
theorem W9_v19 : W9 m ρ c (Proc.devRef .tc main_v19) = val_main_v19 (F := F) (m ((c : Thread nD τ).loc main_arg3)) := by
  rw [W9_of m ρ c _ (by decide), W8_of m ρ c _ (by decide), W7_of m ρ c _ (by decide), W6_of m ρ c _ (by decide),
    W5_of m ρ c _ (by decide), W4_of m ρ c _ (by decide), W3_of m ρ c _ (by decide), W2_of m ρ c _ (by decide)]
  exact W1_v19 m ρ c

/-- Region 0 enters with the signed sine table. -/
theorem W9_v21 : W9 m ρ c (Proc.devRef .tc main_v21) = val_main_v21 (F := F) (m ((c : Thread nD τ).loc main_arg3)) := by
  rw [W9_of m ρ c _ (by decide), W8_of m ρ c _ (by decide), W7_of m ρ c _ (by decide), W6_of m ρ c _ (by decide),
    W5_of m ρ c _ (by decide), W4_of m ρ c _ (by decide), W3_of m ρ c _ (by decide), W2_of m ρ c _ (by decide)]
  exact W1_v21 m ρ c

/-- What region 0 leaves in its first output array, the codes. -/
theorem W10_v58_0 : W10 m ρ c (Proc.devRef .tc main_v58_0) = (dat0 (V9 m ρ) c).arrAt 4 cfg0.N := W10_arr m ρ c 4

/-- What region 0 leaves in its second output array, the running absolute maxima. -/
theorem W10_v58_1 : W10 m ρ c (Proc.devRef .tc main_v58_1) = (dat0 (V9 m ρ) c).arrAt 5 cfg0.N := W10_arr m ρ c 5

/-- Region 1 enters with the codes region 0 left. -/
theorem W11_v58_0 : W11 m ρ c (Proc.devRef .tc main_v58_0) = (dat0 (V9 m ρ) c).arrAt 4 cfg0.N :=
  (W11_of m ρ c _ (by decide)).trans (W10_v58_0 m ρ c)

/-- The scale at region 0's exit. -/
theorem W10_v47 : W10 m ρ c (Proc.devRef .tc main_v47) = val_main_v47 (F := F) (m ((c : Thread nD τ).loc main_arg4)) :=
  (W10_of m ρ c _ (by decide)).trans (W9_v47 m ρ c)

/-- Region 1 enters with the product of the two scales. -/
theorem W11_v60 : W11 m ρ c (Proc.devRef .tc main_v60)
    = val_main_v60 (F := F) (m ((c : Thread nD τ).loc main_arg4)) (m ((c : Thread nD τ).loc main_arg6)) := by
  have h := W10_v47 m ρ c
  have h6 := W10_args m ρ c main_arg6 (by decide)
  show StableHlo.after hostOps1 _ _ = _
  after_results
  rw [h, h6]
  rfl

/-- Region 1 enters with the weight codes as given. -/
theorem W11_arg5 : W11 m ρ c (Proc.devRef .tc main_arg5) = m ((c : Thread nD τ).loc main_arg5) :=
  W11_args m ρ c main_arg5 (by decide)

/-- The program's first result: the product's array, reshaped. -/
theorem W13_v66 : W13 m ρ c (Proc.devRef .tc main_v66)
    = shapeCast S7x256x6144 (((dat1 (V11 m ρ) c).arrAt 3 cfg1.N) : (⟨S1792x6144, .bf16⟩ : BufTy).Contents (Elt F)) shapeCasts_S1792x6144_S7x256x6144 := by
  have h : W12 m ρ c (Proc.devRef .tc main_v61) = (dat1 (V11 m ρ) c).arrAt 3 cfg1.N := W12_arr m ρ c 3
  show StableHlo.after hostOps2 _ _ = _
  after_results
  rw [h]
  rfl

/-- The codes at region 1's exit are those region 0 left. -/
theorem W12_v58_0 : W12 m ρ c (Proc.devRef .tc main_v58_0) = (dat0 (V9 m ρ) c).arrAt 4 cfg0.N :=
  (W12_of m ρ c _ (by decide)).trans (W11_v58_0 m ρ c)

/-- The program's third result: the codes' array, reshaped. -/
theorem W13_v67 : W13 m ρ c (Proc.devRef .tc main_v67)
    = shapeCast S7x256x8192 (((dat0 (V9 m ρ) c).arrAt 4 cfg0.N) : (⟨S1792x8192, .fp8e5m2⟩ : BufTy).Contents (Elt F)) shapeCasts_S1792x8192_S7x256x8192 := by
  have h := W12_v58_0 m ρ c
  show StableHlo.after hostOps2 _ _ = _
  after_results
  rw [h]
  rfl

/-- The program's fourth result: the scale. -/
theorem W13_v47 : W13 m ρ c (Proc.devRef .tc main_v47) = val_main_v47 (F := F) (m ((c : Thread nD τ).loc main_arg4)) :=
  (W13_of m ρ c _ (by decide)).trans ((W12_of m ρ c _ (by decide)).trans
    ((W11_of m ρ c _ (by decide)).trans (W10_v47 m ρ c)))

/-- The new history of maxima, from the region's maxima and the old history. -/
def history (a : (⟨S8x128, .f32⟩ : BufTy).Contents (Elt F)) (x4 : (⟨S16, .f32⟩ : BufTy).Contents (Elt F)) : (⟨S16, .f32⟩ : BufTy).Contents (Elt F) :=
  concatenate S16 0 [⟨S1, broadcastInDim S1 ![] bcast_S_S1 (Host.reduce FloatOps.maximumf a (constant S_ .f32 0xFF800000#32) reducesTo_S8x128_S_d0_1 h_S_)⟩,
    ⟨S15, extractStridedSlice S15 ![0] x4 slices_S16_S15_0⟩] concatenates_S1_S15_S16_d0

/-- The program's second result: the history of maxima, the new one first. -/
theorem W13_v65 : W13 m ρ c (Proc.devRef .tc main_v65) = history ((dat0 (V9 m ρ) c).arrAt 5 cfg0.N) (m ((c : Thread nD τ).loc main_arg4)) := by
  have h : W12 m ρ c (Proc.devRef .tc main_v58_1) = (dat0 (V9 m ρ) c).arrAt 5 cfg0.N :=
    (W12_of m ρ c _ (by decide)).trans ((W11_of m ρ c _ (by decide)).trans (W10_v58_1 m ρ c))
  have h4 := W12_args m ρ c main_arg4 (by decide)
  show StableHlo.after hostOps2 _ _ = _
  after_results
  rw [h, h4]
  rfl

end Cert.KernelIdeal.Hand

end
-- ==== Proof.RefHost.lean ====
/- What the buffers of the reference's program hold at its region's entry and at the end: the arguments' functions of
   RefVals.lean, and what the region leaves in its two output arrays. -/
module

public import proofs.«01_k».proof.Proof.RefVals
public import proofs.«01_k».proof.Proof.Gen.ReferenceIdeal.Frame
public import Idealize.ShloMosaic.Lib.StableHlo.Run
public import Idealize.ShloMosaic.Lib.StableHlo.RunRead

@[expose] public section

set_option maxRecDepth 16384

noncomputable section

namespace Cert.ReferenceIdeal.Hand

open Cert.ReferenceIdeal Cert.ReferenceIdeal.Gen Cert.ReferenceIdeal.Vals
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The rotated query gradient, just before the three gradients are set side by side. -/
theorem upto_v35 : upto hostOps0 (fun b => m (c, b)) 58 (Proc.devRef .tc main_v35) = val_main_v35 (F := F) (m ((c : Thread nD τ).loc main_arg0)) (m ((c : Thread nD τ).loc main_arg3)) := by
  after_reads_simp
  rfl

/-- The rotated key gradient, just before the three gradients are set side by side. -/
theorem upto_v50 : upto hostOps0 (fun b => m (c, b)) 58 (Proc.devRef .tc main_v50) = val_main_v50 (F := F) (m ((c : Thread nD τ).loc main_arg1)) (m ((c : Thread nD τ).loc main_arg3)) := by
  after_reads_simp
  rfl

/-- The value gradient, just before the three gradients are set side by side. -/
theorem upto_v52 : upto hostOps0 (fun b => m (c, b)) 58 (Proc.devRef .tc main_v52) = val_main_v52 (F := F) (m ((c : Thread nD τ).loc main_arg2)) := by
  after_reads_simp
  rfl

/-- Three pieces side by side, each replaced by an equal one. -/
theorem cat3 {x x' : (⟨S7x256x6144, .f32⟩ : BufTy).Contents (Elt F)} {y y' z z' : (⟨S7x256x1024, .f32⟩ : BufTy).Contents (Elt F)}
    (hx : x = x') (hy : y = y') (hz : z = z') :
    concatenate S7x256x8192 2 [⟨S7x256x6144, x⟩, ⟨S7x256x1024, y⟩, ⟨S7x256x1024, z⟩] concatenates_S7x256x6144_S7x256x1024_S7x256x1024_S7x256x8192_d2
      = concatenate S7x256x8192 2 [⟨S7x256x6144, x'⟩, ⟨S7x256x1024, y'⟩, ⟨S7x256x1024, z'⟩] concatenates_S7x256x6144_S7x256x1024_S7x256x1024_S7x256x8192_d2 := by
  subst hx hy hz; rfl

/-- The three gradients side by side, after the first stretch of host operations. -/
theorem after0_v53 : StableHlo.after hostOps0 (fun b => m (c, b)) (Proc.devRef .tc main_v53) = val_main_v53 (F := F) (m ((c : Thread nD τ).loc main_arg0)) (m ((c : Thread nD τ).loc main_arg1)) (m ((c : Thread nD τ).loc main_arg2)) (m ((c : Thread nD τ).loc main_arg3)) := by
  after_reads_simp
  exact cat3 (upto_v35 m c) (upto_v50 m c) (upto_v52 m c)

/-- The contents before the last stretch of host operations of the region's prefix. -/
abbrev Z : Valuation τ sig (Elt F) := StableHlo.after hostOps0_11 <| StableHlo.after hostOps0_10 <| StableHlo.after hostOps0_9 <| StableHlo.after hostOps0_8 <| StableHlo.after hostOps0_7 <| StableHlo.after hostOps0_6 <| StableHlo.after hostOps0_5 <| StableHlo.after hostOps0_4 <| StableHlo.after hostOps0_3 <| StableHlo.after hostOps0_2 <| StableHlo.after hostOps0_1 <| StableHlo.after hostOps0 (fun b => m (c, b))

/-- The prefix's contents, its last stretch apart. -/
theorem V0_eq : V0 m c = StableHlo.after hostOps0_12 (Z m c) := rfl

/-- No later stretch writes the three gradients side by side. -/
theorem Z_v53 : Z m c (Proc.devRef .tc main_v53) = val_main_v53 (F := F) (m ((c : Thread nD τ).loc main_arg0)) (m ((c : Thread nD τ).loc main_arg1)) (m ((c : Thread nD τ).loc main_arg2)) (m ((c : Thread nD τ).loc main_arg3)) := by
  after_reads_simp
  exact cat3 (upto_v35 m c) (upto_v50 m c) (upto_v52 m c)

/-- No stretch writes the history of maxima given. -/
theorem Z_arg4 : Z m c (Proc.devRef .tc main_arg4) = m ((c : Thread nD τ).loc main_arg4) := by
  after_reads_simp

/-- The scale at the region's entry. -/
theorem V0_v73 : V0 m c (Proc.devRef .tc main_v73) = val_main_v73 (F := F) (m ((c : Thread nD τ).loc main_arg4)) := by
  simp only [V0, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.binary, TRef.ternary, TRef.unary, TRef.toBuf, TRef.ofBuf, cast_eq]
  after_results_simp <;> rfl

/-- The region enters with the reciprocal scale. -/
theorem V0_v85 : V0 m c (Proc.devRef .tc main_v85) = val_main_v85 (F := F) (m ((c : Thread nD τ).loc main_arg4)) := by
  simp only [V0, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.binary, TRef.ternary, TRef.unary, TRef.toBuf, TRef.ofBuf, cast_eq]
  after_results_simp <;> rfl

/-- The region enters with the product of the two scales. -/
theorem V0_v87 : V0 m c (Proc.devRef .tc main_v87) = val_main_v87 (F := F) (m ((c : Thread nD τ).loc main_arg4)) (m ((c : Thread nD τ).loc main_arg6)) := by
  simp only [V0, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, TRef.binary, TRef.ternary, TRef.unary, TRef.toBuf, TRef.ofBuf, cast_eq]
  after_results_simp <;> rfl

/-- The region enters with the gradients, rotated back, side by side. -/
theorem V0_v88 : V0 m c (Proc.devRef .tc main_v88) = val_main_v88 (F := F) (m ((c : Thread nD τ).loc main_arg0)) (m ((c : Thread nD τ).loc main_arg1)) (m ((c : Thread nD τ).loc main_arg2)) (m ((c : Thread nD τ).loc main_arg3)) := by
  have h := Z_v53 m c
  rw [V0_eq]
  revert h
  generalize Z m c = z
  intro h
  after_results
  rw [h]
  rfl

/-- The new history of maxima, before the region. -/
theorem V0_v84 : V0 m c (Proc.devRef .tc main_v84) = val_main_v84 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  have h := Z_v53 m c
  have h4 := Z_arg4 m c
  rw [V0_eq]
  revert h h4
  generalize Z m c = z
  intro h h4
  after_results
  rw [h, h4]
  rfl

/-- The program's first result: the product's array, reshaped. -/
theorem tail_v90 : Pipeline.afterTail₀ cfgs (dats m) 0 (V0 m) [hostOps1] c main_v90
    = shapeCast S7x256x6144 (((dats m 0 c).arrAt 5 cfg0.N) : (⟨S1792x6144, .bf16⟩ : BufTy).Contents (Elt F)) shapeCasts_S1792x6144_S7x256x6144 := by
  have h : Pipeline.withArrays spec0 c (V0 m c) (fun w => (dats m 0 c).arrAt w cfg0.N) (Proc.devRef .tc main_v89_1)
      = (dats m 0 c).arrAt 5 cfg0.N := Pipeline.withArrays_arr spec0 launch0.win.arr_inj c _ _ 5
  show StableHlo.after hostOps1 _ _ = _
  after_results
  exact congrArg (fun z => shapeCast S7x256x6144 z shapeCasts_S1792x6144_S7x256x6144) h

/-- The program's third result: the codes' array, reshaped. -/
theorem tail_v91 : Pipeline.afterTail₀ cfgs (dats m) 0 (V0 m) [hostOps1] c main_v91
    = shapeCast S7x256x8192 (((dats m 0 c).arrAt 4 cfg0.N) : (⟨S1792x8192, .fp8e5m2⟩ : BufTy).Contents (Elt F)) shapeCasts_S1792x8192_S7x256x8192 := by
  have h : Pipeline.withArrays spec0 c (V0 m c) (fun w => (dats m 0 c).arrAt w cfg0.N) (Proc.devRef .tc main_v89_0)
      = (dats m 0 c).arrAt 4 cfg0.N := Pipeline.withArrays_arr spec0 launch0.win.arr_inj c _ _ 4
  show StableHlo.after hostOps1 _ _ = _
  after_results
  exact congrArg (fun z => shapeCast S7x256x8192 z shapeCasts_S1792x8192_S7x256x8192) h

/-- The program's second result: the history computed before the region. -/
theorem tail_v84 : Pipeline.afterTail₀ cfgs (dats m) 0 (V0 m) [hostOps1] c main_v84
    = val_main_v84 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans ?_ (V0_v84 m c)
  have h : Pipeline.withArrays spec0 c (V0 m c) (fun w => (dats m 0 c).arrAt w cfg0.N) (Proc.devRef .tc main_v84)
      = V0 m c (Proc.devRef .tc main_v84) := Pipeline.withArrays_of_ne _ c (V0 m c) _ main_v84 (by exact (by decide : ∀ w, Pipeline.arrRef spec0 w ≠ main_v84))
  show StableHlo.after hostOps1 _ _ = _
  after_results
  exact h

/-- The program's fourth result: the scale computed before the region. -/
theorem tail_v73 : Pipeline.afterTail₀ cfgs (dats m) 0 (V0 m) [hostOps1] c main_v73
    = val_main_v73 (F := F) (m ((c : Thread nD τ).loc main_arg4)) := by
  refine Eq.trans ?_ (V0_v73 m c)
  have h : Pipeline.withArrays spec0 c (V0 m c) (fun w => (dats m 0 c).arrAt w cfg0.N) (Proc.devRef .tc main_v73)
      = V0 m c (Proc.devRef .tc main_v73) := Pipeline.withArrays_of_ne _ c (V0 m c) _ main_v73 (by exact (by decide : ∀ w, Pipeline.arrRef spec0 w ≠ main_v73))
  show StableHlo.after hostOps1 _ _ = _
  after_results
  exact h

/-- The reference's run, with its four results. -/
theorem run : θ_run defs (onTc (τ := τ) (main (F := F))) ⟨m, fun _ => 0, ρ⟩ (fun r => ∀ c : Dev nD,
    (r.2.mem ((c : Thread nD τ).loc main_v90) = shapeCast S7x256x6144 (((dats m 0 c).arrAt 5 cfg0.N) : (⟨S1792x6144, .bf16⟩ : BufTy).Contents (Elt F)) shapeCasts_S1792x6144_S7x256x6144
    ∧ r.2.mem ((c : Thread nD τ).loc main_v84) = val_main_v84 (F := F) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_v91) = shapeCast S7x256x8192 (((dats m 0 c).arrAt 4 cfg0.N) : (⟨S1792x8192, .fp8e5m2⟩ : BufTy).Contents (Elt F)) shapeCasts_S1792x8192_S7x256x8192
    ∧ r.2.mem ((c : Thread nD τ).loc main_v73) = val_main_v73 (F := F) (m ((c : Thread nD τ).loc main_arg4)))) :=
  (θ_run defs _ _).mono (fun _ h c =>
    ⟨((h c).2 main_v90 (Pipeline.mem_restRefs_of main_v90 (by decide) (by decide))).trans (tail_v90 m c),
      ((h c).2 main_v84 (Pipeline.mem_restRefs_of main_v84 (by decide) (by decide))).trans (tail_v84 m c),
      ((h c).2 main_v91 (Pipeline.mem_restRefs_of main_v91 (by decide) (by decide))).trans (tail_v91 m c),
      ((h c).2 main_v73 (Pipeline.mem_restRefs_of main_v73 (by decide) (by decide))).trans (tail_v73 m c)⟩) (run_main m ρ)

end Cert.ReferenceIdeal.Hand

end
-- ==== Proof.RefRegion.lean ====
/- What the reference's one region leaves in its two output arrays: its one point's blocks are the whole arrays, so each
   output array ends at the body's payload of the region's whole input arrays. -/
module

public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The offsets of a whole-array access are zero. -/
theorem hz : (![0, 0] : Fin 2 → Nat) = fun _ => 0 := funext fun a => by fin_cases a <;> rfl

/-- The region's one point. -/
abbrev pt : Fin cfg0.N := ⟨0, by decide⟩

/-- Window 0's block is its whole array. -/
theorem iblk_0 (t : Fin cfg0.N) : iblk m c 0 t = V m c main_v85 :=
  Memref.read_access_unit_zero (Elt F) main_v85 (funext fun a => Nat.zero_mul _) _ _
/-- Window 1's block is its whole array. -/
theorem iblk_1 (t : Fin cfg0.N) : iblk m c 1 t = V m c main_v87 :=
  Memref.read_access_unit_zero (Elt F) main_v87 (funext fun a => Nat.zero_mul _) _ _
/-- Window 2's block is its whole array. -/
theorem iblk_2 (t : Fin cfg0.N) : iblk m c 2 t = V m c main_v88 :=
  Memref.read_access_unit_zero (Elt F) main_v88 (funext fun a => Nat.zero_mul _) _ _
/-- Window 3's block is its whole array. -/
theorem iblk_3 (t : Fin cfg0.N) : iblk m c 3 t = V m c main_arg5 :=
  Memref.read_access_unit_zero (Elt F) main_arg5 (funext fun a => Nat.zero_mul _) _ _

/-- The codes' array ends at the body's codes of the whole gradient and reciprocal scale. -/
theorem final_4 : (dats m 0 c).arrAt 4 cfg0.N = (k0_pay1 (F := F) (V m c main_v88) (V m c main_v85) : Vec F S1792x8192 .fp8e5m2) := by
  refine (dats m 0 c).arrAt_eq_of_cover 4 _ (fun t _ => ?_) fun i => ⟨pt, flush0_4 pt, ?_⟩
  · show (cfg0.win 4).cut (grid0.coords t) ((dats m 0 c).after 4 t) = _
    rw [after0_4]
    unfold out0_4
    rw [View.canon_unit_zero hz, View.ld_unit_zero (S := S1792x8192) hz, View.ld_unit_zero (S := S1x1) hz]
    rw [iblk_0, iblk_2]
    exact (Memref.read_access_unit_zero (Elt F) main_v89_0 (funext fun a => Nat.zero_mul _) _ _).symm
  · show i ∈ ((View.whole main_v89_0).slice (win0_4.rect pt)).set
    rw [View.set_slice_whole, Rect.mem_set_unit]
    intro a
    exact ⟨by show 0 * _ ≤ _; omega, by show _ < 0 * _ + _; rw [Nat.zero_mul, Nat.zero_add]; exact (i a).isLt⟩

/-- The product's array ends at the body's product of the whole gradient, reciprocal scale, weight codes and scale. -/
theorem final_5 : (dats m 0 c).arrAt 5 cfg0.N
    = (k0_pay2 (F := F) (V m c main_v88) (V m c main_v85) (V m c main_arg5) (V m c main_v87) : Vec F S1792x6144 .bf16) := by
  refine (dats m 0 c).arrAt_eq_of_cover 5 _ (fun t _ => ?_) fun i => ⟨pt, flush0_5 pt, ?_⟩
  · show (cfg0.win 5).cut (grid0.coords t) ((dats m 0 c).after 5 t) = _
    rw [after0_5]
    unfold out0_5
    rw [View.canon_unit_zero hz, View.ld_unit_zero (S := S1792x8192) hz, View.ld_unit_zero (S := S1x1) hz, View.ld_unit_zero (S := S6144x8192) hz, View.ld_unit_zero (S := S1x1) hz]
    rw [iblk_0, iblk_1, iblk_2, iblk_3]
    exact (Memref.read_access_unit_zero (Elt F) main_v89_1 (funext fun a => Nat.zero_mul _) _ _).symm
  · show i ∈ ((View.whole main_v89_1).slice (win0_5.rect pt)).set
    rw [View.set_slice_whole, Rect.mem_set_unit]
    intro a
    exact ⟨by show 0 * _ ≤ _; omega, by show _ < 0 * _ + _; rw [Nat.zero_mul, Nat.zero_add]; exact (i a).isLt⟩

end Cert.ReferenceIdeal.Hand

end
-- ==== Proof.Equation.lean ====
/- The four results of the kernel program and of the reference are the same functions of the arguments. -/
module

public import proofs.«01_k».proof.Proof.KernelEq
public import proofs.«01_k».proof.Proof.RefEq
public import proofs.«01_k».proof.Proof.ScaleKernel
public import proofs.«01_k».proof.Proof.ScaleRef
public import proofs.«01_k».proof.Proof.KernelDx
public import proofs.«01_k».proof.Proof.KernelHost
public import proofs.«01_k».proof.Proof.RefHost
public import proofs.«01_k».proof.Proof.RefRegion

@[expose] public section

set_option maxRecDepth 16384

noncomputable section

namespace Cert.Equation

open Cert.Hand
open Cert.KernelIdeal.Hand (whole wholeCodes wholeAbs wholeDx one top bot flatRow cosAt sinAt history fold_le neg_inf ix_eq z)
open Idealize.ShloMosaic Idealize.ShloMosaic.TcCoe Idealize.SL.Sem
open scoped BigOperators

abbrev K0 := (⟨Cert.KernelIdeal.S7x256x48x128, .bf16⟩ : BufTy).Contents (Elt Ideal)
abbrev K1 := (⟨Cert.KernelIdeal.S7x256x8x128, .bf16⟩ : BufTy).Contents (Elt Ideal)
abbrev K3 := (⟨Cert.KernelIdeal.S7x256, .i32⟩ : BufTy).Contents (Elt Ideal)
abbrev K4 := (⟨Cert.KernelIdeal.S16, .f32⟩ : BufTy).Contents (Elt Ideal)
abbrev K5 := (⟨Cert.KernelIdeal.S6144x8192, .fp8e4m3⟩ : BufTy).Contents (Elt Ideal)
abbrev K6 := (⟨Cert.KernelIdeal.S_, .f32⟩ : BufTy).Contents (Elt Ideal)

variable (x0 : K0) (x1 x2 : K1) (x3 : K3) (x4 : K4) (x5 : K5) (x6 : K6)

/-- A row of the 1792 is a batch and a position. -/
theorem row_cases (R : Fin 1792) : ∃ (a : Fin 7) (b : Fin 256), R = flatRow a b :=
  ⟨⟨R.val / 256, by omega⟩, ⟨R.val % 256, by omega⟩, Fin.ext (by show R.val = R.val / 256 * 256 + R.val % 256; omega)⟩

/-- The kernel program's gradient before quantising, at a row and a column. -/
def kGrad (R : Fin 1792) (Q : Fin 8192) : EReal :=
  whole (Cert.KernelIdeal.Vals.val_main_v56 (F := Ideal) x0 x1 x2) (Cert.KernelIdeal.Vals.val_main_v19 (F := Ideal) x3)
    (Cert.KernelIdeal.Vals.val_main_v21 (F := Ideal) x3) R Q

/-- It is the reference's. -/
theorem kGrad_eq (R : Fin 1792) (Q : Fin 8192) : kGrad x0 x1 x2 x3 R Q = Cert.ReferenceIdeal.Vals.val_main_v88 (F := Ideal) x0 x1 x2 x3 (ix2 R Q) := by
  obtain ⟨a, b, rfl⟩ := row_cases R
  exact (Cert.KernelIdeal.Hand.whole_eq x0 x1 x2 x3 a b Q).trans (Cert.ReferenceIdeal.Hand.v88_eq x0 x1 x2 x3 a b Q).symm

/-- The two scales are equal. -/
theorem scale_eq : (Cert.KernelIdeal.Vals.val_main_v47 (F := Ideal) x4 : Cert.KernelIdeal.S_.Idx → EReal)
    = Cert.ReferenceIdeal.Vals.val_main_v73 (F := Ideal) x4 :=
  funext fun j => (Cert.KernelIdeal.Hand.v47_eq x4 j).trans (Cert.ReferenceIdeal.Hand.v73_eq x4 j).symm

/-- The inverse scale the kernel program's first region reads. -/
theorem v57_eq : (Cert.KernelIdeal.Vals.val_main_v57 (F := Ideal) x4 one : EReal) = twoTo (-Cert.KernelIdeal.Hand.exponent x4) :=
  Cert.KernelIdeal.Hand.v52_eq x4 _

/-- The one the reference's region reads. -/
theorem v85_eq (j : Cert.ReferenceIdeal.S1x1.Idx) : (Cert.ReferenceIdeal.Vals.val_main_v85 (F := Ideal) x4 j : EReal)
    = twoTo (-Cert.KernelIdeal.Hand.exponent x4) :=
  Cert.ReferenceIdeal.Hand.v79_eq x4 _

/-- The scale of the product that the kernel program's second region reads. -/
theorem v60_eq : (Cert.KernelIdeal.Vals.val_main_v60 (F := Ideal) x4 x6 one : EReal) = twoTo (Cert.KernelIdeal.Hand.exponent x4) * (x6 z : EReal) := by
  have h : ∀ i, (Cert.KernelIdeal.Vals.val_main_v59 (F := Ideal) x4 x6 i : EReal) = twoTo (Cert.KernelIdeal.Hand.exponent x4) * (x6 z : EReal) := fun i => by
    rw [Cert.KernelIdeal.Hand.z_eq i, ← Cert.KernelIdeal.Hand.v47_eq x4 z]
    rfl
  exact h _

/-- The one the reference's region reads. -/
theorem v87_eq (j : Cert.ReferenceIdeal.S1x1.Idx) : (Cert.ReferenceIdeal.Vals.val_main_v87 (F := Ideal) x4 x6 j : EReal)
    = twoTo (Cert.KernelIdeal.Hand.exponent x4) * (x6 z : EReal) := by
  have h : ∀ i, (Cert.ReferenceIdeal.Vals.val_main_v86 (F := Ideal) x4 x6 i : EReal) = twoTo (Cert.KernelIdeal.Hand.exponent x4) * (x6 z : EReal) := fun i => by
    rw [Cert.ReferenceIdeal.Hand.z_eq i, ← Cert.ReferenceIdeal.Hand.v73_eq x4 z]
    rfl
  exact h _

/-- The kernel program's codes, as its first region leaves them. -/
def kCodes : Cert.KernelIdeal.S1792x8192.Idx → EReal :=
  wholeCodes (Cert.KernelIdeal.Vals.val_main_v56 (F := Ideal) x0 x1 x2) (Cert.KernelIdeal.Vals.val_main_v19 (F := Ideal) x3)
    (Cert.KernelIdeal.Vals.val_main_v21 (F := Ideal) x3) (Cert.KernelIdeal.Vals.val_main_v57 (F := Ideal) x4 one)

/-- The reference's codes, as its region leaves them. -/
def rCodes : Cert.ReferenceIdeal.S1792x8192.Idx → EReal :=
  Cert.ReferenceIdeal.Gen.k0_pay1 (F := Ideal) (Cert.ReferenceIdeal.Vals.val_main_v88 (F := Ideal) x0 x1 x2 x3)
    (Cert.ReferenceIdeal.Vals.val_main_v85 (F := Ideal) x4)

/-- The codes are equal. -/
theorem codes_eq : kCodes x0 x1 x2 x3 x4 = rCodes x0 x1 x2 x3 x4 := by
  funext i
  obtain ⟨R, Q, rfl⟩ : ∃ (R : Fin 1792) (Q : Fin 8192), i = ix2 R Q := ⟨i 0, i 1, (ix2_eta (n0 := 1792) (n1 := 8192) i).symm⟩
  have hr : rCodes x0 x1 x2 x3 x4 (ix2 R Q) = min top (max bot ((Cert.ReferenceIdeal.Vals.val_main_v88 (F := Ideal) x0 x1 x2 x3 (ix2 R Q) : EReal)
      * twoTo (-Cert.KernelIdeal.Hand.exponent x4))) := by
    rw [← v85_eq x4 (fun a => ⟨![0, 0] a, Cert.ReferenceIdeal.Gen.inpos_S1x1_p0_0 a⟩)]
    unfold rCodes Cert.ReferenceIdeal.Gen.k0_pay1
    rw [shapeCast_self]
    rfl
  rw [hr, ← kGrad_eq, ← v57_eq]
  rfl

/-- The kernel program's product, as its second region leaves it. -/
def kDx : Cert.KernelIdeal.S1792x6144.Idx → EReal :=
  wholeDx (kCodes x0 x1 x2 x3 x4) x5 (Cert.KernelIdeal.Vals.val_main_v60 (F := Ideal) x4 x6 one)

/-- The reference's product, as its region leaves it. -/
def rDx : Cert.ReferenceIdeal.S1792x6144.Idx → EReal :=
  Cert.ReferenceIdeal.Gen.k0_pay2 (F := Ideal) (Cert.ReferenceIdeal.Vals.val_main_v88 (F := Ideal) x0 x1 x2 x3)
    (Cert.ReferenceIdeal.Vals.val_main_v85 (F := Ideal) x4) x5 (Cert.ReferenceIdeal.Vals.val_main_v87 (F := Ideal) x4 x6)

theorem dot_eq : Cert.ReferenceIdeal.dot_S1792x8192_S6144x8192_S1792x6144_1_1_0_0_n_n = DotDims.transposedRhs 1792 8192 6144 := rfl

/-- The products are equal. -/
theorem dx_eq : kDx x0 x1 x2 x3 x4 x5 x6 = rDx x0 x1 x2 x3 x4 x5 x6 := by
  funext i
  obtain ⟨R, n, rfl⟩ : ∃ (R : Fin 1792) (n : Fin 6144), i = ix2 R n := ⟨i 0, i 1, (ix2_eta (n0 := 1792) (n1 := 6144) i).symm⟩
  have hr : rDx x0 x1 x2 x3 x4 x5 x6 (ix2 R n) = (∑ k : Fin 8192, rCodes x0 x1 x2 x3 x4 (ix2 R k) * (x5 (ix2 n k) : EReal))
      * (twoTo (Cert.KernelIdeal.Hand.exponent x4) * (x6 z : EReal)) := by
    rw [← v87_eq x4 x6 (fun a => ⟨![0, 0] a, Cert.ReferenceIdeal.Gen.inpos_S1x1_p0_0 a⟩)]
    have hm := Ideal.matmul_transposedRhs_apply (M := 1792) (K := 8192) (N := 6144) (φ₁ := .bf16) (φ₂ := .bf16) none (rCodes x0 x1 x2 x3 x4) x5
      (constant Cert.ReferenceIdeal.S1792x6144 .f32 0x00000000#32) R n
    simp only [ix_eq] at hm
    have h0 : (constant (F := Ideal) Cert.ReferenceIdeal.S1792x6144 .f32 0x00000000#32 (ix2 R n) : EReal) = 0 :=
      Cert.KernelIdeal.Hand.zero_word
    rw [h0, zero_add] at hm
    rw [← hm]
    rfl
  rw [hr, ← codes_eq, ← v60_eq]
  rfl

/-- A maximum over every index, started from minus infinity, is bounded when every element is. -/
theorem reduce_le {s t u : Shape} {axes : List (Fin s.rank)} (x : s.Idx → EReal) (init : u.Idx → EReal) (hi : ∀ k, init k = ⊥) (h : s.ReducesTo axes t)
    (ht : t.rank = 0) (hu : 0 < u.numel) (j : t.Idx) (b : EReal) :
    (Host.reduce (FloatOps.maximumf (F := Ideal) (φ := .f32)) x init h hu j : EReal) ≤ b ↔ ∀ y, x y ≤ b := by
  classical
  rw [Host.reduce_eq_fold]
  have all : (Finset.univ.filter fun k => h.drop k = j) = (Finset.univ : Finset s.Idx) :=
    Finset.filter_true_of_mem fun k _ => funext fun a => absurd a.isLt (by omega)
  rw [all]
  refine (fold_le _ x _ b).trans ?_
  rw [hi]
  simp

/-- The reference's new maximum. -/
theorem v81_le (j : Cert.ReferenceIdeal.S_.Idx) (b : EReal) : (Cert.ReferenceIdeal.Vals.val_main_v81 (F := Ideal) x0 x1 x2 x3 j : EReal) ≤ b
    ↔ ∀ R Q, (FloatOps.absf (F := Ideal) (φ := .f32) (kGrad x0 x1 x2 x3 R Q) : EReal) ≤ b := by
  unfold Cert.ReferenceIdeal.Vals.val_main_v81
  refine (reduce_le _ _ (fun _ => neg_inf) _ rfl _ j b).trans ?_
  constructor
  · intro h R Q
    obtain ⟨a, c, rfl⟩ := row_cases R
    have := h (ix3 a c Q)
    rw [Cert.ReferenceIdeal.Vals.val_main_v80_apply, Cert.ReferenceIdeal.Hand.v53_eq] at this
    unfold kGrad
    rw [Cert.KernelIdeal.Hand.whole_eq]
    exact this
  · intro h y
    obtain ⟨a, c, Q, rfl⟩ : ∃ (a : Fin 7) (c : Fin 256) (Q : Fin 8192), y = ix3 a c Q := ⟨y 0, y 1, y 2, eq_ix3 (n0 := 7) (n1 := 256) (n2 := 8192) y⟩
    have := h (flatRow a c) Q
    unfold kGrad at this
    rw [Cert.KernelIdeal.Hand.whole_eq] at this
    rw [Cert.ReferenceIdeal.Vals.val_main_v80_apply, Cert.ReferenceIdeal.Hand.v53_eq]
    exact this

/-- The history of maxima: the one the kernel program makes of its region's maxima is the reference's. -/
theorem history_eq (A : Cert.KernelIdeal.S8x128.Idx → EReal)
    (hA : ∀ b : EReal, (∀ y, A y ≤ b) ↔ (0 : EReal) ≤ b ∧ ∀ R Q, (FloatOps.absf (F := Ideal) (φ := .f32) (kGrad x0 x1 x2 x3 R Q) : EReal) ≤ b) :
    (history (F := Ideal) A x4 : Cert.KernelIdeal.S16.Idx → EReal) = Cert.ReferenceIdeal.Vals.val_main_v84 (F := Ideal) x0 x1 x2 x3 x4 := by
  have key : ∀ j : Cert.KernelIdeal.S_.Idx, Host.reduce (FloatOps.maximumf (F := Ideal) (φ := .f32)) A (constant (F := Ideal) Cert.KernelIdeal.S_ .f32 0xFF800000#32)
      Cert.KernelIdeal.Gen.reducesTo_S8x128_S_d0_1 Cert.KernelIdeal.Gen.h_S_ j = Cert.ReferenceIdeal.Vals.val_main_v81 (F := Ideal) x0 x1 x2 x3 j := by
    intro j
    refine eq_of_forall_ge_iff (α := EReal) fun b => ?_
    refine (reduce_le A _ (fun _ => neg_inf) _ rfl _ j b).trans (Iff.trans ?_ (v81_le x0 x1 x2 x3 j b).symm)
    rw [hA b]
    constructor
    · exact fun h => h.2
    · intro h
      refine ⟨le_trans ?_ (h 0 0), h⟩
      generalize kGrad x0 x1 x2 x3 0 0 = y
      show (0 : EReal) ≤ max y (-y)
      rcases le_total (0 : EReal) y with h | h
      · exact le_max_of_le_left h
      · exact le_max_of_le_right (EReal.neg_nonneg.mpr h)
  unfold history
  rw [show Host.reduce _ _ _ _ _ = _ from funext key]
  rfl

end Cert.Equation

end
-- ==== Proof.Algebraic.lean ====
/- The algebraic claim: over the extended reals the kernel program and the reference end with equal results. -/
module

public import proofs.«01_k».proof.Defs
public import proofs.«01_k».proof.Proof.Equation
public import proofs.«01_k».proof.Proof.KernelRun
public import proofs.«01_k».proof.Proof.Gen.KernelIdeal.Frame
public import proofs.«01_k».proof.Proof.Gen.ReferenceIdeal.Frame
public import Idealize.ShloMosaic.Lib.Claim

@[expose] public section

set_option maxRecDepth 16384

noncomputable section

namespace Cert.Equation

open Idealize.ShloMosaic Idealize.ShloMosaic.TcCoe Idealize.SL.Sem
open Cert.KernelIdeal.Hand (history)

/-- The product as the programs return it: by batch, position and column. -/
def outDx (d : Cert.KernelIdeal.S1792x6144.Idx → EReal) : (⟨Cert.KernelIdeal.S7x256x6144, .bf16⟩ : BufTy).Contents (Elt Ideal) :=
  shapeCast Cert.KernelIdeal.S7x256x6144 d Cert.KernelIdeal.Gen.shapeCasts_S1792x6144_S7x256x6144

/-- The codes as the programs return them: by batch, position and column. -/
def outCodes (d : Cert.KernelIdeal.S1792x8192.Idx → EReal) : (⟨Cert.KernelIdeal.S7x256x8192, .fp8e5m2⟩ : BufTy).Contents (Elt Ideal) :=
  shapeCast Cert.KernelIdeal.S7x256x8192 d Cert.KernelIdeal.Gen.shapeCasts_S1792x8192_S7x256x8192

section Kernel
open Cert.KernelIdeal Cert.KernelIdeal.Gen Cert.KernelIdeal.Hand

variable (m : (ℓ : Loc nD τ sig) → Buf (Elt Ideal) ℓ) (ρ : Dev nD → PrngReg) (c : Dev nD)

/-- What the first region leaves as codes. -/
theorem kernel_codes : (dat0 (V9 m ρ) c).arrAt 4 cfg0.N = (kCodes (m ((c : Thread nD τ).loc main_arg0)) (m ((c : Thread nD τ).loc main_arg1))
    (m ((c : Thread nD τ).loc main_arg2)) (m ((c : Thread nD τ).loc main_arg3)) (m ((c : Thread nD τ).loc main_arg4)) : S1792x8192.Idx → EReal) := by
  have h56 : V9 m ρ c main_v56 = _ := W9_v56 m ρ c
  have h19 : V9 m ρ c main_v19 = _ := W9_v19 m ρ c
  have h21 : V9 m ρ c main_v21 = _ := W9_v21 m ρ c
  have h57 : V9 m ρ c main_v57 = _ := W9_v57 m ρ c
  rw [final0_4, h56, h19, h21, h57]
  rfl

/-- What the first region leaves as maxima, by its bounds. -/
theorem kernel_maxima (A : S8x128.Idx → EReal) (hA : (dat0 (V9 m ρ) c).arrAt 5 cfg0.N = A) (b : EReal) : (∀ y, A y ≤ b)
    ↔ (0 : EReal) ≤ b ∧ ∀ R Q, (FloatOps.absf (F := Ideal) (φ := .f32) (kGrad (m ((c : Thread nD τ).loc main_arg0)) (m ((c : Thread nD τ).loc main_arg1))
      (m ((c : Thread nD τ).loc main_arg2)) (m ((c : Thread nD τ).loc main_arg3)) R Q) : EReal) ≤ b := by
  have h56 : V9 m ρ c main_v56 = _ := W9_v56 m ρ c
  have h19 : V9 m ρ c main_v19 = _ := W9_v19 m ρ c
  have h21 : V9 m ρ c main_v21 = _ := W9_v21 m ρ c
  have := final0_5_le (V9 m ρ) c A hA b
  rw [h56, h19, h21] at this
  exact this

/-- What the second region leaves. -/
theorem kernel_dx : (dat1 (V11 m ρ) c).arrAt 3 cfg1.N = (kDx (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) : S1792x6144.Idx → EReal) := by
  have h58 : V11 m ρ c main_v58_0 = _ := (W11_v58_0 m ρ c).trans (kernel_codes m ρ c)
  have h5 : V11 m ρ c main_arg5 = _ := W11_arg5 m ρ c
  have h60 : V11 m ρ c main_v60 = _ := W11_v60 m ρ c
  rw [final1_3, h58, h5, h60]
  rfl

/-- The kernel program's results. -/
theorem kernel_run : θ_run defs (onTc (τ := τ) (main (F := Ideal))) ⟨m, fun _ => 0, ρ⟩ (fun r => ∀ c : Dev nD,
    r.2.mem ((c : Thread nD τ).loc main_v66) = outDx (rDx (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)))
    ∧ r.2.mem ((c : Thread nD τ).loc main_v65) = Cert.ReferenceIdeal.Vals.val_main_v84 (F := Ideal) (m ((c : Thread nD τ).loc main_arg0))
      (m ((c : Thread nD τ).loc main_arg1)) (m ((c : Thread nD τ).loc main_arg2)) (m ((c : Thread nD τ).loc main_arg3)) (m ((c : Thread nD τ).loc main_arg4))
    ∧ r.2.mem ((c : Thread nD τ).loc main_v67) = outCodes (rCodes (m ((c : Thread nD τ).loc main_arg0)) (m ((c : Thread nD τ).loc main_arg1))
      (m ((c : Thread nD τ).loc main_arg2)) (m ((c : Thread nD τ).loc main_arg3)) (m ((c : Thread nD τ).loc main_arg4)))
    ∧ r.2.mem ((c : Thread nD τ).loc main_v47) = Cert.ReferenceIdeal.Vals.val_main_v73 (F := Ideal) (m ((c : Thread nD τ).loc main_arg4))) := by
  refine (θ_run defs _ _).mono (fun r h c => ?_) (Cert.KernelIdeal.Hand.run m ρ)
  have h66 : r.2.mem ((c : Thread nD τ).loc main_v66) = _ := (h c _ (mem_uc main_v66 (by decide))).trans (W13_v66 m ρ c)
  have h65 : r.2.mem ((c : Thread nD τ).loc main_v65) = _ := (h c _ (mem_uc main_v65 (by decide))).trans (W13_v65 m ρ c)
  have h67 : r.2.mem ((c : Thread nD τ).loc main_v67) = _ := (h c _ (mem_uc main_v67 (by decide))).trans (W13_v67 m ρ c)
  have h47 : r.2.mem ((c : Thread nD τ).loc main_v47) = _ := (h c _ (mem_uc main_v47 (by decide))).trans (W13_v47 m ρ c)
  refine ⟨h66.trans ?_, h65.trans ?_, h67.trans ?_, h47.trans ?_⟩
  · rw [kernel_dx, dx_eq]
    rfl
  · obtain ⟨A, hA⟩ : ∃ A : S8x128.Idx → EReal, (dat0 (V9 m ρ) c).arrAt 5 cfg0.N = A := ⟨_, rfl⟩
    rw [hA]
    exact history_eq _ _ _ _ _ A fun b => kernel_maxima m ρ c A hA b
  · rw [kernel_codes, codes_eq]
    rfl
  · exact scale_eq _

end Kernel

section Reference
open Cert.ReferenceIdeal Cert.ReferenceIdeal.Gen Cert.ReferenceIdeal.Hand

variable (m : (ℓ : Loc nD τ sig) → Buf (Elt Ideal) ℓ) (ρ : Dev nD → PrngReg) (c : Dev nD)

/-- The reference's results. -/
theorem reference_run : θ_run defs (onTc (τ := τ) (main (F := Ideal))) ⟨m, fun _ => 0, ρ⟩ (fun r => ∀ c : Dev nD,
    r.2.mem ((c : Thread nD τ).loc main_v90) = outDx (rDx (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)))
    ∧ r.2.mem ((c : Thread nD τ).loc main_v84) = Cert.ReferenceIdeal.Vals.val_main_v84 (F := Ideal) (m ((c : Thread nD τ).loc main_arg0))
      (m ((c : Thread nD τ).loc main_arg1)) (m ((c : Thread nD τ).loc main_arg2)) (m ((c : Thread nD τ).loc main_arg3)) (m ((c : Thread nD τ).loc main_arg4))
    ∧ r.2.mem ((c : Thread nD τ).loc main_v91) = outCodes (rCodes (m ((c : Thread nD τ).loc main_arg0)) (m ((c : Thread nD τ).loc main_arg1))
      (m ((c : Thread nD τ).loc main_arg2)) (m ((c : Thread nD τ).loc main_arg3)) (m ((c : Thread nD τ).loc main_arg4)))
    ∧ r.2.mem ((c : Thread nD τ).loc main_v73) = Cert.ReferenceIdeal.Vals.val_main_v73 (F := Ideal) (m ((c : Thread nD τ).loc main_arg4))) := by
  refine (θ_run defs _ _).mono (fun r h c => ?_) (Cert.ReferenceIdeal.Hand.run m ρ)
  obtain ⟨h90, h84, h91, h73⟩ := h c
  have e88 : V m c main_v88 = _ := V0_v88 m c
  have e85 : V m c main_v85 = _ := V0_v85 m c
  have e87 : V m c main_v87 = _ := V0_v87 m c
  have e5 : V m c main_arg5 = _ := V_main_arg5 m c
  refine ⟨h90.trans ?_, h84, h91.trans ?_, h73⟩
  · rw [final_5, e88, e85, e87, e5]
    rfl
  · rw [final_4, e88, e85]
    rfl

end Reference

/-- The algebraic claim. -/
theorem algebraic : Cert.algebraic_KernelIdeal_ReferenceIdeal := by
  intro m g m' g' _ hm
  refine ⟨fun c => outDx (rDx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.ReferenceIdeal.Vals.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => outCodes (rCodes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4))),
    fun c => Cert.ReferenceIdeal.Vals.val_main_v73 (F := Ideal) (m ((c.tc : Thread Cert.KernelIdeal.nD Cert.KernelIdeal.τ).loc Cert.KernelIdeal.main_arg4)),
    (θ_run Cert.KernelIdeal.defs _ _).mono (fun r h c => ?_) (θ_run_and (kernel_run m g) (Cert.KernelIdeal.Gen.frame m g)),
    (θ_run Cert.ReferenceIdeal.defs _ _).mono (fun r h c => ?_) (θ_run_and (reference_run m' g') (Cert.ReferenceIdeal.Gen.frame m' g'))⟩
  · obtain ⟨a, b, d, e⟩ := h.1 c
    exact ⟨a, b, d, e, h.2.1 c⟩
  · obtain ⟨a, b, d, e⟩ := h.1 c
    obtain ⟨h0, h1, h2, h3, h4, h5, h6⟩ := hm c
    rw [h0, h1, h2, h3, h4, h5, h6] at a
    rw [h0, h1, h2, h3, h4] at b d
    rw [h4] at e
    exact ⟨a, b, d, e, h.2.1 c⟩

end Cert.Equation

end
-- ==== Proof.lean ====
/- The certificate: the kernel, its idealization and the reference run and restore their frames, the idealization preserves the kernel, and over
   the extended reals its results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of `Cert.Claim`: each program runs, leaves its arguments as launched and its semaphores at zero; the idealization preserves the
    kernel; and over the extended reals the kernel and the reference end with equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Equation.algebraic⟩

end Cert.Proof

end
